-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_no_tie [hPre_finite_and_no_tie : Cert.Pre_finite_and_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.2.2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.2.2.2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_no_tie [hPre_finite_and_no_tie : Cert.Pre_finite_and_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2.2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2.2.2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2.2.2.2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_KernelIdeal_pre_finite_and_no_tie [hKernelIdeal : Cert.KernelIdeal.Facts] [hPre_finite_and_no_tie : Cert.Pre_finite_and_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def quiescent_ReferenceIdeal_pre_finite_and_no_tie [hReferenceIdeal : Cert.ReferenceIdeal.Facts] [hPre_finite_and_no_tie : Cert.Pre_finite_and_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_and_no_tie [hKernelIdeal : Cert.KernelIdeal.Facts] [hReferenceIdeal : Cert.ReferenceIdeal.Facts] [hPre_finite_and_no_tie : Cert.Pre_finite_and_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v274) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_and_no_tie : Cert.Pre_finite_and_no_tie.Facts),
    quiescent_Kernel (hKernel := hKernel)
    ∧ quiescent_KernelIdeal (hKernelIdeal := hKernelIdeal)
    ∧ quiescent_KernelIdeal_pre_finite_and_no_tie (hKernelIdeal := hKernelIdeal) (hPre_finite_and_no_tie := hPre_finite_and_no_tie)
    ∧ quiescent_ReferenceIdeal (hReferenceIdeal := hReferenceIdeal)
    ∧ quiescent_ReferenceIdeal_pre_finite_and_no_tie (hReferenceIdeal := hReferenceIdeal) (hPre_finite_and_no_tie := hPre_finite_and_no_tie)
    ∧ preserves_Kernel_KernelIdeal
    ∧ algebraic_KernelIdeal_ReferenceIdeal_pre_finite_and_no_tie (hKernelIdeal := hKernelIdeal) (hReferenceIdeal := hReferenceIdeal) (hPre_finite_and_no_tie := hPre_finite_and_no_tie)
-- ==== Pre_finite_and_no_tie.lean ====
abbrev S512x64x256 : Shape := ⟨3, ![512, 64, 256]⟩
abbrev S512x2 : Shape := ⟨2, ![512, 2]⟩
abbrev S512x64 : Shape := ⟨2, ![512, 64]⟩
abbrev S256x128 : Shape := ⟨2, ![256, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S4x128 : Shape := ⟨2, ![4, 128]⟩
abbrev S512x256 : Shape := ⟨2, ![512, 256]⟩
abbrev S1x256 : Shape := ⟨2, ![1, 256]⟩
abbrev S512x1 : Shape := ⟨2, ![512, 1]⟩
abbrev S_ : Shape := ⟨0, ![]⟩
abbrev S1x512 : Shape := ⟨2, ![1, 512]⟩
abbrev S512x512 : Shape := ⟨2, ![512, 512]⟩
abbrev S1x128 : Shape := ⟨2, ![1, 128]⟩

class Facts : Prop where
  slices_S512x2_S512x1_0_0 : S512x2.Slices ![0, 0] S512x1
  shapeCasts_S512x1_S512 : S512x1.ShapeCasts S512
  bcast_S_S512 : S_.BroadcastsInDim S512 (![] : Fin 0 → Fin S512.rank)
  slices_S512x2_S512x1_0_1 : S512x2.Slices ![0, 1] S512x1
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  bcast_S_S512x64x256 : S_.BroadcastsInDim S512x64x256 (![] : Fin 0 → Fin S512x64x256.rank)
  bcast_S_S512x2 : S_.BroadcastsInDim S512x2 (![] : Fin 0 → Fin S512x2.rank)
  bcast_S_S256x128 : S_.BroadcastsInDim S256x128 (![] : Fin 0 → Fin S256x128.rank)
  bcast_S_S128 : S_.BroadcastsInDim S128 (![] : Fin 0 → Fin S128.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S128x128 : S_.BroadcastsInDim S128x128 (![] : Fin 0 → Fin S128x128.rank)
  bcast_S1x128_S128x128_0_1 : S1x128.BroadcastsInDim S128x128 (![0, 1] : Fin 2 → Fin S128x128.rank)
  bcast_S_S128x256 : S_.BroadcastsInDim S128x256 (![] : Fin 0 → Fin S128x256.rank)
  bcast_S_S256x512 : S_.BroadcastsInDim S256x512 (![] : Fin 0 → Fin S256x512.rank)
  bcast_S1x512_S256x512_0_1 : S1x512.BroadcastsInDim S256x512 (![0, 1] : Fin 2 → Fin S256x512.rank)
  bcast_S_S4x128 : S_.BroadcastsInDim S4x128 (![] : Fin 0 → Fin S4x128.rank)
  bcast_S_S512x256 : S_.BroadcastsInDim S512x256 (![] : Fin 0 → Fin S512x256.rank)
  bcast_S_S1x256 : S_.BroadcastsInDim S1x256 (![] : Fin 0 → Fin S1x256.rank)
  bcast_S1x256_S512x256_0_1 : S1x256.BroadcastsInDim S512x256 (![0, 1] : Fin 2 → Fin S512x256.rank)

variable [Facts]

def fn_clip {F : FTy → Type} [FloatOps F] (arg0 : FVec F S512x512 .f32) (arg1 : FVec F S_ .f32) (arg2 : FVec F S_ .f32) : FVec F S512x512 .f32 :=
  let v0 : FVec F S_ .f32 := id arg1
  let v1 : FVec F S512x512 .f32 := broadcastInDim S512x512 ![] bcast_S_S512x512 v0
  let v2 : FVec F S512x512 .f32 := maximumf v1 arg0
  let v3 : FVec F S_ .f32 := id arg2
  let v4 : FVec F S512x512 .f32 := broadcastInDim S512x512 ![] bcast_S_S512x512 v3
  let v5 : FVec F S512x512 .f32 := minimumf v4 v2
  v5

def fn_part6 {F : FTy → Type} [FloatOps F] (main_arg21 : FVec F S1x256 .f32) (main_arg22 : FVec F S1x256 .f32) (main_v47 : IVec S512x512 1) (main_v50 : IVec S512x64x256 1) (main_v53 : IVec S512x2 1) (main_v74 : IVec S256x128 1) (main_v95 : IVec S128x128 1) (main_v98 : IVec S128x256 1) (main_v107 : IVec S256x512 1) (main_v114 : IVec S4x128 1) (main_v117 : IVec S512x256 1) : IVec S512x512 1 × IVec S512x64x256 1 × IVec S512x2 1 × IVec S256x128 1 × IVec S128x128 1 × IVec S128x256 1 × IVec S256x512 1 × IVec S4x128 1 × IVec S512x256 1 :=
  let main_v118 : FVec F S1x256 .f32 := Host.absf main_arg21
  let main_cst_25 : FVec F S_ .f32 := constant S_ .f32 0x7F800000#32
  let main_v119 : FVec F S1x256 .f32 := broadcastInDim S1x256 ![] bcast_S_S1x256 main_cst_25
  let main_v120 : IVec S1x256 1 := cmpf .olt main_v118 main_v119
  let main_v121 : IVec S512x256 1 := broadcastInDim S512x256 ![0, 1] bcast_S1x256_S512x256_0_1 main_v120
  let main_v122 : IVec S512x256 1 := andi main_v117 main_v121
  let main_v123 : FVec F S1x256 .f32 := Host.absf main_arg22
  let main_cst_26 : FVec F S_ .f32 := constant S_ .f32 0x7F800000#32
  let main_v124 : FVec F S1x256 .f32 := broadcastInDim S1x256 ![] bcast_S_S1x256 main_cst_26
  let main_v125 : IVec S1x256 1 := cmpf .olt main_v123 main_v124
  let main_v126 : IVec S512x256 1 := broadcastInDim S512x256 ![0, 1] bcast_S1x256_S512x256_0_1 main_v125
  let main_v127 : IVec S512x256 1 := andi main_v122 main_v126
  (main_v47, main_v50, main_v53, main_v74, main_v95, main_v98, main_v107, main_v114, main_v127)

def fn_part5 {F : FTy → Type} [FloatOps F] (main_arg15 : FVec F S256x512 .f32) (main_arg16 : FVec F S512 .f32) (main_arg17 : FVec F S4x128 .f32) (main_arg18 : FVec F S4x128 .f32) (main_arg19 : FVec F S512x256 .f32) (main_arg21 : FVec F S1x256 .f32) (main_arg22 : FVec F S1x256 .f32) (main_v47 : IVec S512x512 1) (main_v50 : IVec S512x64x256 1) (main_v53 : IVec S512x2 1) (main_v74 : IVec S256x128 1) (main_v95 : IVec S128x128 1) (main_v98 : IVec S128x256 1) : IVec S512x512 1 × IVec S512x64x256 1 × IVec S512x2 1 × IVec S256x128 1 × IVec S128x128 1 × IVec S128x256 1 × IVec S256x512 1 × IVec S4x128 1 × IVec S512x256 1 :=
  let main_v99 : FVec F S256x512 .f32 := Host.absf main_arg15
  let main_cst_20 : FVec F S_ .f32 := constant S_ .f32 0x7F800000#32
  let main_v100 : FVec F S256x512 .f32 := broadcastInDim S256x512 ![] bcast_S_S256x512 main_cst_20
  let main_v101 : IVec S256x512 1 := cmpf .olt main_v99 main_v100
  let main_v102 : FVec F S512 .f32 := Host.absf main_arg16
  let main_cst_21 : FVec F S_ .f32 := constant S_ .f32 0x7F800000#32
  let main_v103 : FVec F S512 .f32 := broadcastInDim S512 ![] bcast_S_S512 main_cst_21
  let main_v104 : IVec S512 1 := cmpf .olt main_v102 main_v103
  let main_v105 : IVec S1x512 1 := broadcastInDim S1x512 ![1] bcast_S512_S1x512_1 main_v104
  let main_v106 : IVec S256x512 1 := broadcastInDim S256x512 ![0, 1] bcast_S1x512_S256x512_0_1 main_v105
  let main_v107 : IVec S256x512 1 := andi main_v101 main_v106
  let main_v108 : FVec F S4x128 .f32 := Host.absf main_arg17
  let main_cst_22 : FVec F S_ .f32 := constant S_ .f32 0x7F800000#32
  let main_v109 : FVec F S4x128 .f32 := broadcastInDim S4x128 ![] bcast_S_S4x128 main_cst_22
  let main_v110 : IVec S4x128 1 := cmpf .olt main_v108 main_v109
  let main_v111 : FVec F S4x128 .f32 := Host.absf main_arg18
  let main_cst_23 : FVec F S_ .f32 := constant S_ .f32 0x7F800000#32
  let main_v112 : FVec F S4x128 .f32 := broadcastInDim S4x128 ![] bcast_S_S4x128 main_cst_23
  let main_v113 : IVec S4x128 1 := cmpf .olt main_v111 main_v112
  let main_v114 : IVec S4x128 1 := andi main_v110 main_v113
  let main_v115 : FVec F S512x256 .f32 := Host.absf main_arg19
  let main_cst_24 : FVec F S_ .f32 := constant S_ .f32 0x7F800000#32
  let main_v116 : FVec F S512x256 .f32 := broadcastInDim S512x256 ![] bcast_S_S512x256 main_cst_24
  let main_v117 : IVec S512x256 1 := cmpf .olt main_v115 main_v116
  fn_part6 (F := F) main_arg21 main_arg22 main_v47 main_v50 main_v53 main_v74 main_v95 main_v98 main_v107 main_v114 main_v117

def fn_part4 {F : FTy → Type} [FloatOps F] (main_arg9 : FVec F S128 .f32) (main_arg10 : FVec F S128 .f32) (main_arg11 : FVec F S128x256 .f32) (main_arg15 : FVec F S256x512 .f32) (main_arg16 : FVec F S512 .f32) (main_arg17 : FVec F S4x128 .f32) (main_arg18 : FVec F S4x128 .f32) (main_arg19 : FVec F S512x256 .f32) (main_arg21 : FVec F S1x256 .f32) (main_arg22 : FVec F S1x256 .f32) (main_v47 : IVec S512x512 1) (main_v50 : IVec S512x64x256 1) (main_v53 : IVec S512x2 1) (main_v74 : IVec S256x128 1) (main_v77 : IVec S128x128 1) (main_v78 : FVec F S128 .f32) : IVec S512x512 1 × IVec S512x64x256 1 × IVec S512x2 1 × IVec S256x128 1 × IVec S128x128 1 × IVec S128x256 1 × IVec S256x512 1 × IVec S4x128 1 × IVec S512x256 1 :=
  let main_cst_16 : FVec F S_ .f32 := constant S_ .f32 0x7F800000#32
  let main_v79 : FVec F S128 .f32 := broadcastInDim S128 ![] bcast_S_S128 main_cst_16
  let main_v80 : IVec S128 1 := cmpf .olt main_v78 main_v79
  let main_v81 : IVec S1x128 1 := broadcastInDim S1x128 ![1] bcast_S128_S1x128_1 main_v80
  let main_v82 : IVec S128x128 1 := broadcastInDim S128x128 ![0, 1] bcast_S1x128_S128x128_0_1 main_v81
  let main_v83 : IVec S128x128 1 := andi main_v77 main_v82
  let main_v84 : FVec F S128 .f32 := Host.absf main_arg9
  let main_cst_17 : FVec F S_ .f32 := constant S_ .f32 0x7F800000#32
  let main_v85 : FVec F S128 .f32 := broadcastInDim S128 ![] bcast_S_S128 main_cst_17
  let main_v86 : IVec S128 1 := cmpf .olt main_v84 main_v85
  let main_v87 : IVec S1x128 1 := broadcastInDim S1x128 ![1] bcast_S128_S1x128_1 main_v86
  let main_v88 : IVec S128x128 1 := broadcastInDim S128x128 ![0, 1] bcast_S1x128_S128x128_0_1 main_v87
  let main_v89 : IVec S128x128 1 := andi main_v83 main_v88
  let main_v90 : FVec F S128 .f32 := Host.absf main_arg10
  let main_cst_18 : FVec F S_ .f32 := constant S_ .f32 0x7F800000#32
  let main_v91 : FVec F S128 .f32 := broadcastInDim S128 ![] bcast_S_S128 main_cst_18
  let main_v92 : IVec S128 1 := cmpf .olt main_v90 main_v91
  let main_v93 : IVec S1x128 1 := broadcastInDim S1x128 ![1] bcast_S128_S1x128_1 main_v92
  let main_v94 : IVec S128x128 1 := broadcastInDim S128x128 ![0, 1] bcast_S1x128_S128x128_0_1 main_v93
  let main_v95 : IVec S128x128 1 := andi main_v89 main_v94
  let main_v96 : FVec F S128x256 .f32 := Host.absf main_arg11
  let main_cst_19 : FVec F S_ .f32 := constant S_ .f32 0x7F800000#32
  let main_v97 : FVec F S128x256 .f32 := broadcastInDim S128x256 ![] bcast_S_S128x256 main_cst_19
  let main_v98 : IVec S128x256 1 := cmpf .olt main_v96 main_v97
  fn_part5 (F := F) main_arg15 main_arg16 main_arg17 main_arg18 main_arg19 main_arg21 main_arg22 main_v47 main_v50 main_v53 main_v74 main_v95 main_v98

def fn_part3 {F : FTy → Type} [FloatOps F] (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x256 .f32) (main_arg15 : FVec F S256x512 .f32) (main_arg16 : FVec F S512 .f32) (main_arg17 : FVec F S4x128 .f32) (main_arg18 : FVec F S4x128 .f32) (main_arg19 : FVec F S512x256 .f32) (main_arg21 : FVec F S1x256 .f32) (main_arg22 : FVec F S1x256 .f32) (main_v47 : IVec S512x512 1) (main_v50 : IVec S512x64x256 1) (main_v53 : IVec S512x2 1) (main_v56 : IVec S256x128 1) (main_v57 : FVec F S128 .f32) (main_cst_12 : FVec F S_ .f32) : IVec S512x512 1 × IVec S512x64x256 1 × IVec S512x2 1 × IVec S256x128 1 × IVec S128x128 1 × IVec S128x256 1 × IVec S256x512 1 × IVec S4x128 1 × IVec S512x256 1 :=
  let main_v58 : FVec F S128 .f32 := broadcastInDim S128 ![] bcast_S_S128 main_cst_12
  let main_v59 : IVec S128 1 := cmpf .olt main_v57 main_v58
  let main_v60 : IVec S1x128 1 := broadcastInDim S1x128 ![1] bcast_S128_S1x128_1 main_v59
  let main_v61 : IVec S256x128 1 := broadcastInDim S256x128 ![0, 1] bcast_S1x128_S256x128_0_1 main_v60
  let main_v62 : IVec S256x128 1 := andi main_v56 main_v61
  let main_v63 : FVec F S128 .f32 := Host.absf main_arg5
  let main_cst_13 : FVec F S_ .f32 := constant S_ .f32 0x7F800000#32
  let main_v64 : FVec F S128 .f32 := broadcastInDim S128 ![] bcast_S_S128 main_cst_13
  let main_v65 : IVec S128 1 := cmpf .olt main_v63 main_v64
  let main_v66 : IVec S1x128 1 := broadcastInDim S1x128 ![1] bcast_S128_S1x128_1 main_v65
  let main_v67 : IVec S256x128 1 := broadcastInDim S256x128 ![0, 1] bcast_S1x128_S256x128_0_1 main_v66
  let main_v68 : IVec S256x128 1 := andi main_v62 main_v67
  let main_v69 : FVec F S128 .f32 := Host.absf main_arg6
  let main_cst_14 : FVec F S_ .f32 := constant S_ .f32 0x7F800000#32
  let main_v70 : FVec F S128 .f32 := broadcastInDim S128 ![] bcast_S_S128 main_cst_14
  let main_v71 : IVec S128 1 := cmpf .olt main_v69 main_v70
  let main_v72 : IVec S1x128 1 := broadcastInDim S1x128 ![1] bcast_S128_S1x128_1 main_v71
  let main_v73 : IVec S256x128 1 := broadcastInDim S256x128 ![0, 1] bcast_S1x128_S256x128_0_1 main_v72
  let main_v74 : IVec S256x128 1 := andi main_v68 main_v73
  let main_v75 : FVec F S128x128 .f32 := Host.absf main_arg7
  let main_cst_15 : FVec F S_ .f32 := constant S_ .f32 0x7F800000#32
  let main_v76 : FVec F S128x128 .f32 := broadcastInDim S128x128 ![] bcast_S_S128x128 main_cst_15
  let main_v77 : IVec S128x128 1 := cmpf .olt main_v75 main_v76
  let main_v78 : FVec F S128 .f32 := Host.absf main_arg8
  fn_part4 (F := F) main_arg9 main_arg10 main_arg11 main_arg15 main_arg16 main_arg17 main_arg18 main_arg19 main_arg21 main_arg22 main_v47 main_v50 main_v53 main_v74 main_v77 main_v78

def fn_part2 {F : FTy → Type} [FloatOps F] (main_arg0 : FVec F S512x64x256 .f32) (main_arg1 : FVec F S512x2 .f32) (main_arg3 : FVec F S256x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x256 .f32) (main_arg15 : FVec F S256x512 .f32) (main_arg16 : FVec F S512 .f32) (main_arg17 : FVec F S4x128 .f32) (main_arg18 : FVec F S4x128 .f32) (main_arg19 : FVec F S512x256 .f32) (main_arg21 : FVec F S1x256 .f32) (main_arg22 : FVec F S1x256 .f32) (main_v40 : FVec F S512x512 .f32) : IVec S512x512 1 × IVec S512x64x256 1 × IVec S512x2 1 × IVec S256x128 1 × IVec S128x128 1 × IVec S128x256 1 × IVec S256x512 1 × IVec S4x128 1 × IVec S512x256 1 :=
  let main_cst_6 : FVec F S_ .f32 := constant S_ .f32 0x46471800#32
  let main_v41 : FVec F S512x512 .f32 := broadcastInDim S512x512 ![] bcast_S_S512x512 main_cst_6
  let main_v42 : FVec F S512x512 .f32 := mulf main_v41 main_v40
  let main_cst_7 : FVec F S_ .f32 := constant S_ .f32 0x42480000#32
  let main_v43 : FVec F S512x512 .f32 := broadcastInDim S512x512 ![] bcast_S_S512x512 main_cst_7
  let main_v44 : FVec F S512x512 .f32 := subf main_v42 main_v43
  let main_v45 : FVec F S512x512 .f32 := Host.absf main_v44
  let main_cst_8 : FVec F S_ .f32 := constant S_ .f32 0x358637BD#32
  let main_v46 : FVec F S512x512 .f32 := broadcastInDim S512x512 ![] bcast_S_S512x512 main_cst_8
  let main_v47 : IVec S512x512 1 := cmpf .ogt main_v45 main_v46
  let main_v48 : FVec F S512x64x256 .f32 := Host.absf main_arg0
  let main_cst_9 : FVec F S_ .f32 := constant S_ .f32 0x7F800000#32
  let main_v49 : FVec F S512x64x256 .f32 := broadcastInDim S512x64x256 ![] bcast_S_S512x64x256 main_cst_9
  let main_v50 : IVec S512x64x256 1 := cmpf .olt main_v48 main_v49
  let main_v51 : FVec F S512x2 .f32 := Host.absf main_arg1
  let main_cst_10 : FVec F S_ .f32 := constant S_ .f32 0x7F800000#32
  let main_v52 : FVec F S512x2 .f32 := broadcastInDim S512x2 ![] bcast_S_S512x2 main_cst_10
  let main_v53 : IVec S512x2 1 := cmpf .olt main_v51 main_v52
  let main_v54 : FVec F S256x128 .f32 := Host.absf main_arg3
  let main_cst_11 : FVec F S_ .f32 := constant S_ .f32 0x7F800000#32
  let main_v55 : FVec F S256x128 .f32 := broadcastInDim S256x128 ![] bcast_S_S256x128 main_cst_11
  let main_v56 : IVec S256x128 1 := cmpf .olt main_v54 main_v55
  let main_v57 : FVec F S128 .f32 := Host.absf main_arg4
  let main_cst_12 : FVec F S_ .f32 := constant S_ .f32 0x7F800000#32
  fn_part3 (F := F) main_arg5 main_arg6 main_arg7 main_arg8 main_arg9 main_arg10 main_arg11 main_arg15 main_arg16 main_arg17 main_arg18 main_arg19 main_arg21 main_arg22 main_v47 main_v50 main_v53 main_v56 main_v57 main_cst_12

def fn_part1 {F : FTy → Type} [FloatOps F] (main_arg0 : FVec F S512x64x256 .f32) (main_arg1 : FVec F S512x2 .f32) (main_arg3 : FVec F S256x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x256 .f32) (main_arg15 : FVec F S256x512 .f32) (main_arg16 : FVec F S512 .f32) (main_arg17 : FVec F S4x128 .f32) (main_arg18 : FVec F S4x128 .f32) (main_arg19 : FVec F S512x256 .f32) (main_arg21 : FVec F S1x256 .f32) (main_arg22 : FVec F S1x256 .f32) (main_v3 : FVec F S512 .f32) (main_v17 : FVec F S512x512 .f32) (main_v20 : FVec F S512x512 .f32) : IVec S512x512 1 × IVec S512x64x256 1 × IVec S512x2 1 × IVec S256x128 1 × IVec S128x128 1 × IVec S128x256 1 × IVec S256x512 1 × IVec S4x128 1 × IVec S512x256 1 :=
  let main_v21 : FVec F S512x512 .f32 := mulf main_v20 main_v20
  let main_v22 : FVec F S512 .f32 := Host.cos main_v3
  let main_v23 : FVec F S512x1 .f32 := broadcastInDim S512x1 ![0] bcast_S512_S512x1_0 main_v22
  let main_v24 : FVec F S512 .f32 := Host.cos main_v3
  let main_v25 : FVec F S1x512 .f32 := broadcastInDim S1x512 ![1] bcast_S512_S1x512_1 main_v24
  let main_v26 : FVec F S512x512 .f32 := broadcastInDim S512x512 ![0, 1] bcast_S512x1_S512x512_0_1 main_v23
  let main_v27 : FVec F S512x512 .f32 := broadcastInDim S512x512 ![0, 1] bcast_S1x512_S512x512_0_1 main_v25
  let main_v28 : FVec F S512x512 .f32 := mulf main_v26 main_v27
  let main_cst_2 : FVec F S_ .f32 := constant S_ .f32 0x40000000#32
  let main_v29 : FVec F S512x512 .f32 := broadcastInDim S512x512 ![] bcast_S_S512x512 main_cst_2
  let main_v30 : FVec F S512x512 .f32 := Host.divf main_v17 main_v29
  let main_v31 : FVec F S512x512 .f32 := Host.sin main_v30
  let main_v32 : FVec F S512x512 .f32 := mulf main_v31 main_v31
  let main_v33 : FVec F S512x512 .f32 := mulf main_v28 main_v32
  let main_v34 : FVec F S512x512 .f32 := addf main_v21 main_v33
  let main_cst_3 : FVec F S_ .f32 := constant S_ .f32 0x2B8CBCCC#32
  let main_cst_4 : FVec F S_ .f32 := constant S_ .f32 0x3F800000#32
  let main_v35 : FVec F S512x512 .f32 := fn_clip (F := F) main_v34 main_cst_3 main_cst_4
  let main_v36 : FVec F S512x512 .f32 := Host.sqrt main_v35
  let main_cst_5 : FVec F S_ .f32 := constant S_ .f32 0x3F800000#32
  let main_v37 : FVec F S512x512 .f32 := broadcastInDim S512x512 ![] bcast_S_S512x512 main_cst_5
  let main_v38 : FVec F S512x512 .f32 := subf main_v37 main_v35
  let main_v39 : FVec F S512x512 .f32 := Host.sqrt main_v38
  let main_v40 : FVec F S512x512 .f32 := Host.atan2 main_v36 main_v39
  fn_part2 (F := F) main_arg0 main_arg1 main_arg3 main_arg4 main_arg5 main_arg6 main_arg7 main_arg8 main_arg9 main_arg10 main_arg11 main_arg15 main_arg16 main_arg17 main_arg18 main_arg19 main_arg21 main_arg22 main_v40

def fn {F : FTy → Type} [FloatOps F] (main_arg0 : FVec F S512x64x256 .f32) (main_arg1 : FVec F S512x2 .f32) (main_arg2 : FVec F S512x64 .f32) (main_arg3 : FVec F S256x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x256 .f32) (main_arg12 : FVec F S256 .f32) (main_arg13 : FVec F S256 .f32) (main_arg14 : FVec F S256 .f32) (main_arg15 : FVec F S256x512 .f32) (main_arg16 : FVec F S512 .f32) (main_arg17 : FVec F S4x128 .f32) (main_arg18 : FVec F S4x128 .f32) (main_arg19 : FVec F S512x256 .f32) (main_arg20 : FVec F S256 .f32) (main_arg21 : FVec F S1x256 .f32) (main_arg22 : FVec F S1x256 .f32) (main_arg23 : FVec F S512x256 .f32) (main_arg24 : FVec F S256 .f32) (main_arg25 : FVec F S256 .f32) (main_arg26 : FVec F S256 .f32) : IVec S512x512 1 × IVec S512x64x256 1 × IVec S512x2 1 × IVec S256x128 1 × IVec S128x128 1 × IVec S128x256 1 × IVec S256x512 1 × IVec S4x128 1 × IVec S512x256 1 :=
  let main_v0 : FVec F S512x1 .f32 := (extractStridedSlice S512x1 ![0, 0] · slices_S512x2_S512x1_0_0) main_arg1
  let main_v1 : FVec F S512 .f32 := shapeCast S512 main_v0 shapeCasts_S512x1_S512
  let main_cst : FVec F S_ .f32 := constant S_ .f32 0x3C8EFA35#32
  let main_v2 : FVec F S512 .f32 := broadcastInDim S512 ![] bcast_S_S512 main_cst
  let main_v3 : FVec F S512 .f32 := mulf main_v1 main_v2
  let main_v4 : FVec F S512x1 .f32 := (extractStridedSlice S512x1 ![0, 1] · slices_S512x2_S512x1_0_1) main_arg1
  let main_v5 : FVec F S512 .f32 := shapeCast S512 main_v4 shapeCasts_S512x1_S512
  let main_cst_0 : FVec F S_ .f32 := constant S_ .f32 0x3C8EFA35#32
  let main_v6 : FVec F S512 .f32 := broadcastInDim S512 ![] bcast_S_S512 main_cst_0
  let main_v7 : FVec F S512 .f32 := mulf main_v5 main_v6
  let main_v8 : FVec F S512x1 .f32 := broadcastInDim S512x1 ![0] bcast_S512_S512x1_0 main_v3
  let main_v9 : FVec F S1x512 .f32 := broadcastInDim S1x512 ![1] bcast_S512_S1x512_1 main_v3
  let main_v10 : FVec F S512x512 .f32 := broadcastInDim S512x512 ![0, 1] bcast_S512x1_S512x512_0_1 main_v8
  let main_v11 : FVec F S512x512 .f32 := broadcastInDim S512x512 ![0, 1] bcast_S1x512_S512x512_0_1 main_v9
  let main_v12 : FVec F S512x512 .f32 := subf main_v10 main_v11
  let main_v13 : FVec F S512x1 .f32 := broadcastInDim S512x1 ![0] bcast_S512_S512x1_0 main_v7
  let main_v14 : FVec F S1x512 .f32 := broadcastInDim S1x512 ![1] bcast_S512_S1x512_1 main_v7
  let main_v15 : FVec F S512x512 .f32 := broadcastInDim S512x512 ![0, 1] bcast_S512x1_S512x512_0_1 main_v13
  let main_v16 : FVec F S512x512 .f32 := broadcastInDim S512x512 ![0, 1] bcast_S1x512_S512x512_0_1 main_v14
  let main_v17 : FVec F S512x512 .f32 := subf main_v15 main_v16
  let main_cst_1 : FVec F S_ .f32 := constant S_ .f32 0x40000000#32
  let main_v18 : FVec F S512x512 .f32 := broadcastInDim S512x512 ![] bcast_S_S512x512 main_cst_1
  let main_v19 : FVec F S512x512 .f32 := Host.divf main_v12 main_v18
  let main_v20 : FVec F S512x512 .f32 := Host.sin main_v19
  fn_part1 (F := F) main_arg0 main_arg1 main_arg3 main_arg4 main_arg5 main_arg6 main_arg7 main_arg8 main_arg9 main_arg10 main_arg11 main_arg15 main_arg16 main_arg17 main_arg18 main_arg19 main_arg21 main_arg22 main_v3 main_v17 main_v20
-- ==== Kernel.lean ====
abbrev S512x64x256 : Shape := ⟨3, ![512, 64, 256]⟩
abbrev S512x2 : Shape := ⟨2, ![512, 2]⟩
abbrev S512x64 : Shape := ⟨2, ![512, 64]⟩
abbrev S256x128 : Shape := ⟨2, ![256, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S4x128 : Shape := ⟨2, ![4, 128]⟩
abbrev S512x256 : Shape := ⟨2, ![512, 256]⟩
abbrev S1x256 : Shape := ⟨2, ![1, 256]⟩
abbrev S2x512 : Shape := ⟨2, ![2, 512]⟩
abbrev S1x128 : Shape := ⟨2, ![1, 128]⟩
abbrev S512x8x256 : Shape := ⟨3, ![512, 8, 256]⟩
abbrev S512x512 : Shape := ⟨2, ![512, 512]⟩
abbrev S512x1 : Shape := ⟨2, ![512, 1]⟩
abbrev S1x512 : Shape := ⟨2, ![1, 512]⟩
abbrev S512x8x128 : Shape := ⟨3, ![512, 8, 128]⟩
abbrev S1x1x128 : Shape := ⟨3, ![1, 1, 128]⟩
abbrev S512x8 : Shape := ⟨2, ![512, 8]⟩
abbrev S512x8x1 : Shape := ⟨3, ![512, 8, 1]⟩
abbrev S1x1x256 : Shape := ⟨3, ![1, 1, 256]⟩
abbrev S32x64x256 : Shape := ⟨3, ![32, 64, 256]⟩
abbrev S64x64 : Shape := ⟨2, ![64, 64]⟩
abbrev S1x64x64 : Shape := ⟨3, ![1, 64, 64]⟩
abbrev S2048x256 : Shape := ⟨2, ![2048, 256]⟩
abbrev S2048x512 : Shape := ⟨2, ![2048, 512]⟩
abbrev S2048x128 : Shape := ⟨2, ![2048, 128]⟩
abbrev S32x64x128 : Shape := ⟨3, ![32, 64, 128]⟩
abbrev S32x64 : Shape := ⟨2, ![32, 64]⟩
abbrev S32x64x1 : Shape := ⟨3, ![32, 64, 1]⟩
abbrev S32x1x64 : Shape := ⟨3, ![32, 1, 64]⟩
abbrev S32x64x64 : Shape := ⟨3, ![32, 64, 64]⟩
abbrev S32x64x512 : Shape := ⟨3, ![32, 64, 512]⟩
abbrev S1x1x512 : Shape := ⟨3, ![1, 1, 512]⟩
abbrev S256x256 : Shape := ⟨2, ![256, 256]⟩
abbrev S2048 : Shape := ⟨1, ![2048]⟩
abbrev S2048x1 : Shape := ⟨2, ![2048, 1]⟩

abbrev nBuf : Space → Nat
  | .hbm => 44
  | .vmem => 37
  | .smem => 0
  | _ => 0

abbrev bufTy : (tb : Table) → Fin (tcTables nBuf tb) → BufTy
  | .hbm, ⟨0, _⟩ => ⟨S512x64x256, .f32⟩
  | .hbm, ⟨1, _⟩ => ⟨S512x2, .f32⟩
  | .hbm, ⟨2, _⟩ => ⟨S512x64, .f32⟩
  | .hbm, ⟨3, _⟩ => ⟨S256x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256x512, .f32⟩
  | .hbm, ⟨16, _⟩ => ⟨S512, .f32⟩
  | .hbm, ⟨17, _⟩ => ⟨S4x128, .f32⟩
  | .hbm, ⟨18, _⟩ => ⟨S4x128, .f32⟩
  | .hbm, ⟨19, _⟩ => ⟨S512x256, .f32⟩
  | .hbm, ⟨20, _⟩ => ⟨S256, .f32⟩
  | .hbm, ⟨21, _⟩ => ⟨S1x256, .f32⟩
  | .hbm, ⟨22, _⟩ => ⟨S1x256, .f32⟩
  | .hbm, ⟨23, _⟩ => ⟨S512x256, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S2x512, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x256, .f32⟩
  | .hbm, ⟨35, _⟩ => ⟨S1x256, .f32⟩
  | .hbm, ⟨36, _⟩ => ⟨S1x256, .f32⟩
  | .hbm, ⟨37, _⟩ => ⟨S512x64x256, .f32⟩
  | .hbm, ⟨38, _⟩ => ⟨S1x512, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S512x64x256, .f32⟩
  | .local _ .vmem, ⟨0, _⟩ => ⟨S512x2, .f32⟩
  | .local _ .vmem, ⟨1, _⟩ => ⟨S2x512, .f32⟩
  | .local _ .vmem, ⟨2, _⟩ => ⟨S512x8x256, .f32⟩
  | .local _ .vmem, ⟨3, _⟩ => ⟨S512x8x256, .f32⟩
  | .local _ .vmem, ⟨4, _⟩ => ⟨S256x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S128x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S512x8x256, .f32⟩
  | .local _ .vmem, ⟨17, _⟩ => ⟨S512x8x256, .f32⟩
  | .local _ .vmem, ⟨18, _⟩ => ⟨S512x512, .bf16⟩
  | .local _ .vmem, ⟨19, _⟩ => ⟨S32x64x256, .f32⟩
  | .local _ .vmem, ⟨20, _⟩ => ⟨S32x64x256, .f32⟩
  | .local _ .vmem, ⟨21, _⟩ => ⟨S32x64x256, .f32⟩
  | .local _ .vmem, ⟨22, _⟩ => ⟨S32x64x256, .f32⟩
  | .local _ .vmem, ⟨23, _⟩ => ⟨S256x512, .f32⟩
  | .local _ .vmem, ⟨24, _⟩ => ⟨S1x512, .f32⟩
  | .local _ .vmem, ⟨25, _⟩ => ⟨S4x128, .f32⟩
  | .local _ .vmem, ⟨26, _⟩ => ⟨S4x128, .f32⟩
  | .local _ .vmem, ⟨27, _⟩ => ⟨S1x256, .f32⟩
  | .local _ .vmem, ⟨28, _⟩ => ⟨S1x256, .f32⟩
  | .local _ .vmem, ⟨29, _⟩ => ⟨S512x256, .f32⟩
  | .local _ .vmem, ⟨30, _⟩ => ⟨S1x256, .f32⟩
  | .local _ .vmem, ⟨31, _⟩ => ⟨S512x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S32x64x256, .f32⟩
  | .local _ .vmem, ⟨36, _⟩ => ⟨S32x64x256, .f32⟩
  | _, _ => ⟨S512x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_scratch0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg12_0 : Ref sig .tc := ⟨.vmem, 33, rfl⟩
abbrev cc1_stg13_0 : Ref sig .tc := ⟨.vmem, 34, rfl⟩
abbrev cc1_stg14_0 : Ref sig .tc := ⟨.vmem, 35, rfl⟩
abbrev cc1_stg14_1 : Ref sig .tc := ⟨.vmem, 36, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem12_0 : DmaSem sig := 32
abbrev cc1_sem13_0 : DmaSem sig := 33
abbrev cc1_sem14_0 : DmaSem sig := 34
abbrev cc1_sem14_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S512x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x8x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S32x64x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x64x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S512x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S32x64x256 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S512x64x256 : Shape := ⟨3, ![512, 64, 256]⟩
abbrev S512x2 : Shape := ⟨2, ![512, 2]⟩
abbrev S512x64 : Shape := ⟨2, ![512, 64]⟩
abbrev S256x128 : Shape := ⟨2, ![256, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S4x128 : Shape := ⟨2, ![4, 128]⟩
abbrev S512x256 : Shape := ⟨2, ![512, 256]⟩
abbrev S1x256 : Shape := ⟨2, ![1, 256]⟩
abbrev S512x1 : Shape := ⟨2, ![512, 1]⟩
abbrev S_ : Shape := ⟨0, ![]⟩
abbrev S1x512 : Shape := ⟨2, ![1, 512]⟩
abbrev S512x512 : Shape := ⟨2, ![512, 512]⟩
abbrev S64x512x256 : Shape := ⟨3, ![64, 512, 256]⟩
abbrev S64x512x128 : Shape := ⟨3, ![64, 512, 128]⟩
abbrev S512x64x128 : Shape := ⟨3, ![512, 64, 128]⟩
abbrev S1x128 : Shape := ⟨2, ![1, 128]⟩
abbrev S1x1x128 : Shape := ⟨3, ![1, 1, 128]⟩
abbrev S64x512 : Shape := ⟨2, ![64, 512]⟩
abbrev S64x512x1 : Shape := ⟨3, ![64, 512, 1]⟩
abbrev S1x1x256 : Shape := ⟨3, ![1, 1, 256]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S512x64x512 : Shape := ⟨3, ![512, 64, 512]⟩
abbrev S512x64x4x128 : Shape := ⟨4, ![512, 64, 4, 128]⟩
abbrev S1x4x128 : Shape := ⟨3, ![1, 4, 128]⟩
abbrev S1x1x4x128 : Shape := ⟨4, ![1, 1, 4, 128]⟩
abbrev S512x64x4 : Shape := ⟨3, ![512, 64, 4]⟩
abbrev S512x64x1x4 : Shape := ⟨4, ![512, 64, 1, 4]⟩
abbrev S512x1x64x4 : Shape := ⟨4, ![512, 1, 64, 4]⟩
abbrev S512x64x64x4 : Shape := ⟨4, ![512, 64, 64, 4]⟩
abbrev S64x64x1 : Shape := ⟨3, ![64, 64, 1]⟩
abbrev S64x64x4 : Shape := ⟨3, ![64, 64, 4]⟩
abbrev S512x4x128x64 : Shape := ⟨4, ![512, 4, 128, 64]⟩
abbrev S1x1x512 : Shape := ⟨3, ![1, 1, 512]⟩
abbrev S512x64x1x256 : Shape := ⟨4, ![512, 64, 1, 256]⟩
abbrev S1x1x1x256 : Shape := ⟨4, ![1, 1, 1, 256]⟩
abbrev S512x64x1 : Shape := ⟨3, ![512, 64, 1]⟩
abbrev S512x64x1x1 : Shape := ⟨4, ![512, 64, 1, 1]⟩
abbrev S512x1x64x1 : Shape := ⟨4, ![512, 1, 64, 1]⟩
abbrev S512x64x64x1 : Shape := ⟨4, ![512, 64, 64, 1]⟩
abbrev S512x1x256x64 : Shape := ⟨4, ![512, 1, 256, 64]⟩

abbrev nBuf : Space → Nat
  | .hbm => 492
  | .vmem => 0
  | .smem => 0
  | _ => 0

abbrev hbmTy0_0 (i : Nat) : BufTy := match i % 128 with
  | 0 => ⟨S512x64x256, .f32⟩
  | 1 => ⟨S512x2, .f32⟩
  | 2 => ⟨S512x64, .f32⟩
  | 3 => ⟨S256x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x256, .f32⟩
  | 12 => ⟨S256, .f32⟩
  | 13 => ⟨S256, .f32⟩
  | 14 => ⟨S256, .f32⟩
  | 15 => ⟨S256x512, .f32⟩
  | 16 => ⟨S512, .f32⟩
  | 17 => ⟨S4x128, .f32⟩
  | 18 => ⟨S4x128, .f32⟩
  | 19 => ⟨S512x256, .f32⟩
  | 20 => ⟨S256, .f32⟩
  | 21 => ⟨S1x256, .f32⟩
  | 22 => ⟨S1x256, .f32⟩
  | 23 => ⟨S512x256, .f32⟩
  | 24 => ⟨S256, .f32⟩
  | 25 => ⟨S256, .f32⟩
  | 26 => ⟨S256, .f32⟩
  | 27 => ⟨S512x1, .f32⟩
  | 28 => ⟨S512, .f32⟩
  | 29 => ⟨S_, .f32⟩
  | 30 => ⟨S512, .f32⟩
  | 31 => ⟨S512, .f32⟩
  | 32 => ⟨S512x1, .f32⟩
  | 33 => ⟨S512, .f32⟩
  | 34 => ⟨S_, .f32⟩
  | 35 => ⟨S512, .f32⟩
  | 36 => ⟨S512, .f32⟩
  | 37 => ⟨S512x1, .f32⟩
  | 38 => ⟨S1x512, .f32⟩
  | 39 => ⟨S512x512, .f32⟩
  | 40 => ⟨S512x512, .f32⟩
  | 41 => ⟨S512x512, .f32⟩
  | 42 => ⟨S512x1, .f32⟩
  | 43 => ⟨S1x512, .f32⟩
  | 44 => ⟨S512x512, .f32⟩
  | 45 => ⟨S512x512, .f32⟩
  | 46 => ⟨S512x512, .f32⟩
  | 47 => ⟨S_, .f32⟩
  | 48 => ⟨S512x512, .f32⟩
  | 49 => ⟨S512x512, .f32⟩
  | 50 => ⟨S512x512, .f32⟩
  | 51 => ⟨S512x512, .f32⟩
  | 52 => ⟨S512, .f32⟩
  | 53 => ⟨S512x1, .f32⟩
  | 54 => ⟨S512, .f32⟩
  | 55 => ⟨S1x512, .f32⟩
  | 56 => ⟨S512x512, .f32⟩
  | 57 => ⟨S512x512, .f32⟩
  | 58 => ⟨S512x512, .f32⟩
  | 59 => ⟨S_, .f32⟩
  | 60 => ⟨S512x512, .f32⟩
  | 61 => ⟨S512x512, .f32⟩
  | 62 => ⟨S512x512, .f32⟩
  | 63 => ⟨S512x512, .f32⟩
  | 64 => ⟨S512x512, .f32⟩
  | 65 => ⟨S512x512, .f32⟩
  | 66 => ⟨S_, .f32⟩
  | 67 => ⟨S_, .f32⟩
  | 68 => ⟨S_, .f32⟩
  | 69 => ⟨S512x512, .f32⟩
  | 70 => ⟨S512x512, .f32⟩
  | 71 => ⟨S_, .f32⟩
  | 72 => ⟨S512x512, .f32⟩
  | 73 => ⟨S512x512, .f32⟩
  | 74 => ⟨S512x512, .f32⟩
  | 75 => ⟨S_, .f32⟩
  | 76 => ⟨S512x512, .f32⟩
  | 77 => ⟨S512x512, .f32⟩
  | 78 => ⟨S512x512, .f32⟩
  | 79 => ⟨S512x512, .f32⟩
  | 80 => ⟨S_, .f32⟩
  | 81 => ⟨S512x512, .f32⟩
  | 82 => ⟨S512x512, .f32⟩
  | 83 => ⟨S512x512, .i32⟩
  | 84 => ⟨S512x512, .i32⟩
  | 85 => ⟨S_, .i32⟩
  | 86 => ⟨S512x512, .i32⟩
  | 87 => ⟨S512x512, .i32⟩
  | 88 => ⟨S512x512, .i1⟩
  | 89 => ⟨S512x512, .f32⟩
  | 90 => ⟨S_, .f32⟩
  | 91 => ⟨S512x512, .f32⟩
  | 92 => ⟨S512x512, .i1⟩
  | 93 => ⟨S_, .f32⟩
  | 94 => ⟨S512x512, .f32⟩
  | 95 => ⟨S512x512, .i1⟩
  | 96 => ⟨S512x512, .i1⟩
  | 97 => ⟨S_, .f32⟩
  | 98 => ⟨S_, .f32⟩
  | 99 => ⟨S512x512, .f32⟩
  | 100 => ⟨S512x512, .f32⟩
  | 101 => ⟨S512x512, .f32⟩
  | 102 => ⟨S512x512, .f32⟩
  | 103 => ⟨S512x512, .f32⟩
  | 104 => ⟨S_, .f32⟩
  | 105 => ⟨S512, .f32⟩
  | 106 => ⟨S_, .f32⟩
  | 107 => ⟨S512, .f32⟩
  | 108 => ⟨S512, .f32⟩
  | 109 => ⟨S512x1, .f32⟩
  | 110 => ⟨S512x512, .f32⟩
  | 111 => ⟨S512x512, .f32⟩
  | 112 => ⟨S1x512, .f32⟩
  | 113 => ⟨S512x512, .f32⟩
  | 114 => ⟨S512x512, .f32⟩
  | 115 => ⟨S64x512x256, .f32⟩
  | 116 => ⟨S64x512x128, .f32⟩
  | 117 => ⟨S512x64x128, .f32⟩
  | 118 => ⟨S1x128, .f32⟩
  | 119 => ⟨S64x512x128, .f32⟩
  | 120 => ⟨S1x1x128, .f32⟩
  | 121 => ⟨S64x512x128, .f32⟩
  | 122 => ⟨S64x512x128, .f32⟩
  | 123 => ⟨S_, .f32⟩
  | 124 => ⟨S64x512, .f32⟩
  | 125 => ⟨S64x512x1, .f32⟩
  | 126 => ⟨S_, .f32⟩
  | 127 => ⟨S64x512x1, .f32⟩
  | _ => ⟨S512x64x256, .f32⟩

abbrev hbmTy0_1 (i : Nat) : BufTy := match i % 128 with
  | 0 => ⟨S64x512x1, .f32⟩
  | 1 => ⟨S_, .i32⟩
  | 2 => ⟨S_, .f32⟩
  | 3 => ⟨S64x512, .f32⟩
  | 4 => ⟨S64x512x1, .f32⟩
  | 5 => ⟨S_, .f32⟩
  | 6 => ⟨S64x512x1, .f32⟩
  | 7 => ⟨S64x512x1, .f32⟩
  | 8 => ⟨S64x512x128, .f32⟩
  | 9 => ⟨S64x512x128, .f32⟩
  | 10 => ⟨S64x512x128, .f32⟩
  | 11 => ⟨S_, .f32⟩
  | 12 => ⟨S_, .f32⟩
  | 13 => ⟨S_, .f32⟩
  | 14 => ⟨S_, .f32⟩
  | 15 => ⟨S64x512, .f32⟩
  | 16 => ⟨S64x512x1, .f32⟩
  | 17 => ⟨S64x512x1, .f32⟩
  | 18 => ⟨S64x512x1, .f32⟩
  | 19 => ⟨S_, .f32⟩
  | 20 => ⟨S_, .i1⟩
  | 21 => ⟨S_, .f32⟩
  | 22 => ⟨S_, .f32⟩
  | 23 => ⟨S512x1, .f32⟩
  | 24 => ⟨S64x512x1, .f32⟩
  | 25 => ⟨S64x512x1, .f32⟩
  | 26 => ⟨S64x512x128, .f32⟩
  | 27 => ⟨S64x512x128, .f32⟩
  | 28 => ⟨S_, .f32⟩
  | 29 => ⟨S64x512x1, .f32⟩
  | 30 => ⟨S64x512x1, .f32⟩
  | 31 => ⟨S64x512x1, .f32⟩
  | 32 => ⟨S64x512x128, .f32⟩
  | 33 => ⟨S64x512x128, .f32⟩
  | 34 => ⟨S1x128, .f32⟩
  | 35 => ⟨S1x1x128, .f32⟩
  | 36 => ⟨S64x512x128, .f32⟩
  | 37 => ⟨S64x512x128, .f32⟩
  | 38 => ⟨S1x128, .f32⟩
  | 39 => ⟨S1x1x128, .f32⟩
  | 40 => ⟨S64x512x128, .f32⟩
  | 41 => ⟨S64x512x128, .f32⟩
  | 42 => ⟨S_, .f32⟩
  | 43 => ⟨S64x512x128, .f32⟩
  | 44 => ⟨S64x512x128, .f32⟩
  | 45 => ⟨S64x512x128, .f32⟩
  | 46 => ⟨S512x64x128, .f32⟩
  | 47 => ⟨S1x128, .f32⟩
  | 48 => ⟨S64x512x128, .f32⟩
  | 49 => ⟨S1x1x128, .f32⟩
  | 50 => ⟨S64x512x128, .f32⟩
  | 51 => ⟨S64x512x128, .f32⟩
  | 52 => ⟨S_, .f32⟩
  | 53 => ⟨S64x512, .f32⟩
  | 54 => ⟨S64x512x1, .f32⟩
  | 55 => ⟨S_, .f32⟩
  | 56 => ⟨S64x512x1, .f32⟩
  | 57 => ⟨S64x512x1, .f32⟩
  | 58 => ⟨S_, .i32⟩
  | 59 => ⟨S_, .f32⟩
  | 60 => ⟨S64x512, .f32⟩
  | 61 => ⟨S64x512x1, .f32⟩
  | 62 => ⟨S_, .f32⟩
  | 63 => ⟨S64x512x1, .f32⟩
  | 64 => ⟨S64x512x1, .f32⟩
  | 65 => ⟨S64x512x128, .f32⟩
  | 66 => ⟨S64x512x128, .f32⟩
  | 67 => ⟨S64x512x128, .f32⟩
  | 68 => ⟨S_, .f32⟩
  | 69 => ⟨S_, .f32⟩
  | 70 => ⟨S_, .f32⟩
  | 71 => ⟨S_, .f32⟩
  | 72 => ⟨S64x512, .f32⟩
  | 73 => ⟨S64x512x1, .f32⟩
  | 74 => ⟨S64x512x1, .f32⟩
  | 75 => ⟨S64x512x1, .f32⟩
  | 76 => ⟨S_, .f32⟩
  | 77 => ⟨S_, .i1⟩
  | 78 => ⟨S_, .f32⟩
  | 79 => ⟨S_, .f32⟩
  | 80 => ⟨S512x1, .f32⟩
  | 81 => ⟨S64x512x1, .f32⟩
  | 82 => ⟨S64x512x1, .f32⟩
  | 83 => ⟨S64x512x128, .f32⟩
  | 84 => ⟨S64x512x128, .f32⟩
  | 85 => ⟨S_, .f32⟩
  | 86 => ⟨S64x512x1, .f32⟩
  | 87 => ⟨S64x512x1, .f32⟩
  | 88 => ⟨S64x512x1, .f32⟩
  | 89 => ⟨S64x512x128, .f32⟩
  | 90 => ⟨S64x512x128, .f32⟩
  | 91 => ⟨S1x128, .f32⟩
  | 92 => ⟨S1x1x128, .f32⟩
  | 93 => ⟨S64x512x128, .f32⟩
  | 94 => ⟨S64x512x128, .f32⟩
  | 95 => ⟨S1x128, .f32⟩
  | 96 => ⟨S1x1x128, .f32⟩
  | 97 => ⟨S64x512x128, .f32⟩
  | 98 => ⟨S64x512x128, .f32⟩
  | 99 => ⟨S_, .f32⟩
  | 100 => ⟨S64x512x128, .f32⟩
  | 101 => ⟨S64x512x128, .f32⟩
  | 102 => ⟨S64x512x256, .f32⟩
  | 103 => ⟨S512x64x256, .f32⟩
  | 104 => ⟨S1x256, .f32⟩
  | 105 => ⟨S64x512x256, .f32⟩
  | 106 => ⟨S1x1x256, .f32⟩
  | 107 => ⟨S64x512x256, .f32⟩
  | 108 => ⟨S64x512x256, .f32⟩
  | 109 => ⟨S_, .f32⟩
  | 110 => ⟨S64x512, .f32⟩
  | 111 => ⟨S64x512x1, .f32⟩
  | 112 => ⟨S_, .f32⟩
  | 113 => ⟨S64x512x1, .f32⟩
  | 114 => ⟨S64x512x1, .f32⟩
  | 115 => ⟨S_, .i32⟩
  | 116 => ⟨S_, .f32⟩
  | 117 => ⟨S64x512, .f32⟩
  | 118 => ⟨S64x512x1, .f32⟩
  | 119 => ⟨S_, .f32⟩
  | 120 => ⟨S64x512x1, .f32⟩
  | 121 => ⟨S64x512x1, .f32⟩
  | 122 => ⟨S64x512x256, .f32⟩
  | 123 => ⟨S64x512x256, .f32⟩
  | 124 => ⟨S64x512x256, .f32⟩
  | 125 => ⟨S_, .f32⟩
  | 126 => ⟨S_, .f32⟩
  | 127 => ⟨S_, .f32⟩
  | _ => ⟨S512x64x256, .f32⟩

abbrev hbmTy0_2 (i : Nat) : BufTy := match i % 128 with
  | 0 => ⟨S_, .f32⟩
  | 1 => ⟨S64x512, .f32⟩
  | 2 => ⟨S64x512x1, .f32⟩
  | 3 => ⟨S64x512x1, .f32⟩
  | 4 => ⟨S64x512x1, .f32⟩
  | 5 => ⟨S_, .f32⟩
  | 6 => ⟨S_, .i1⟩
  | 7 => ⟨S_, .f32⟩
  | 8 => ⟨S_, .f32⟩
  | 9 => ⟨S512x1, .f32⟩
  | 10 => ⟨S64x512x1, .f32⟩
  | 11 => ⟨S64x512x1, .f32⟩
  | 12 => ⟨S64x512x256, .f32⟩
  | 13 => ⟨S64x512x256, .f32⟩
  | 14 => ⟨S_, .f32⟩
  | 15 => ⟨S64x512x1, .f32⟩
  | 16 => ⟨S64x512x1, .f32⟩
  | 17 => ⟨S64x512x1, .f32⟩
  | 18 => ⟨S64x512x256, .f32⟩
  | 19 => ⟨S64x512x256, .f32⟩
  | 20 => ⟨S1x256, .f32⟩
  | 21 => ⟨S1x1x256, .f32⟩
  | 22 => ⟨S64x512x256, .f32⟩
  | 23 => ⟨S64x512x256, .f32⟩
  | 24 => ⟨S1x256, .f32⟩
  | 25 => ⟨S1x1x256, .f32⟩
  | 26 => ⟨S64x512x256, .f32⟩
  | 27 => ⟨S64x512x256, .f32⟩
  | 28 => ⟨S512x64x256, .f32⟩
  | 29 => ⟨S64, .i32⟩
  | 30 => ⟨S64x1, .i32⟩
  | 31 => ⟨S1x64, .i32⟩
  | 32 => ⟨S64x64, .i32⟩
  | 33 => ⟨S64x64, .i32⟩
  | 34 => ⟨S64x64, .i32⟩
  | 35 => ⟨S64x64, .i32⟩
  | 36 => ⟨S_, .i32⟩
  | 37 => ⟨S64x64, .i32⟩
  | 38 => ⟨S64x64, .i1⟩
  | 39 => ⟨S512x64x512, .f32⟩
  | 40 => ⟨S512x64x4x128, .f32⟩
  | 41 => ⟨S1x4x128, .f32⟩
  | 42 => ⟨S1x1x4x128, .f32⟩
  | 43 => ⟨S512x64x4x128, .f32⟩
  | 44 => ⟨S512x64x4x128, .f32⟩
  | 45 => ⟨S_, .f32⟩
  | 46 => ⟨S512x64x4, .f32⟩
  | 47 => ⟨S1x4x128, .f32⟩
  | 48 => ⟨S1x1x4x128, .f32⟩
  | 49 => ⟨S512x64x4x128, .f32⟩
  | 50 => ⟨S512x64x4x128, .f32⟩
  | 51 => ⟨S_, .f32⟩
  | 52 => ⟨S512x64x4, .f32⟩
  | 53 => ⟨S512x64x1x4, .f32⟩
  | 54 => ⟨S512x1x64x4, .f32⟩
  | 55 => ⟨S512x64x64x4, .f32⟩
  | 56 => ⟨S512x64x64x4, .f32⟩
  | 57 => ⟨S512x64x64x4, .f32⟩
  | 58 => ⟨S_, .f32⟩
  | 59 => ⟨S_, .f32⟩
  | 60 => ⟨S512x64x64x4, .f32⟩
  | 61 => ⟨S512x64x64x4, .i1⟩
  | 62 => ⟨S_, .f32⟩
  | 63 => ⟨S512x64x64x4, .f32⟩
  | 64 => ⟨S512x64x64x4, .f32⟩
  | 65 => ⟨S512x64x64x4, .f32⟩
  | 66 => ⟨S64x64x1, .i1⟩
  | 67 => ⟨S_, .f32⟩
  | 68 => ⟨S_, .f32⟩
  | 69 => ⟨S64x64x4, .i1⟩
  | 70 => ⟨S64x64x4, .f32⟩
  | 71 => ⟨S512x64x64x4, .i1⟩
  | 72 => ⟨S512x64x64x4, .f32⟩
  | 73 => ⟨S512x64x64x4, .f32⟩
  | 74 => ⟨S_, .f32⟩
  | 75 => ⟨S512x64x4, .f32⟩
  | 76 => ⟨S_, .f32⟩
  | 77 => ⟨S512x64x4, .f32⟩
  | 78 => ⟨S512x64x4, .f32⟩
  | 79 => ⟨S512x64x1x4, .f32⟩
  | 80 => ⟨S512x64x64x4, .f32⟩
  | 81 => ⟨S512x64x64x4, .f32⟩
  | 82 => ⟨S512x64x64x4, .f32⟩
  | 83 => ⟨S_, .f32⟩
  | 84 => ⟨S512x64x4, .f32⟩
  | 85 => ⟨S512x64x1x4, .f32⟩
  | 86 => ⟨S512x64x64x4, .f32⟩
  | 87 => ⟨S512x64x64x4, .f32⟩
  | 88 => ⟨S512x4x128x64, .f32⟩
  | 89 => ⟨S512x64x4x128, .f32⟩
  | 90 => ⟨S512x64x512, .f32⟩
  | 91 => ⟨S1x512, .f32⟩
  | 92 => ⟨S1x1x512, .f32⟩
  | 93 => ⟨S512x64x512, .f32⟩
  | 94 => ⟨S512x64x512, .f32⟩
  | 95 => ⟨S_, .f32⟩
  | 96 => ⟨S512x64x512, .f32⟩
  | 97 => ⟨S512x64x512, .i1⟩
  | 98 => ⟨S_, .f32⟩
  | 99 => ⟨S512x64x512, .f32⟩
  | 100 => ⟨S512x64x512, .i1⟩
  | 101 => ⟨S_, .f32⟩
  | 102 => ⟨S_, .f32⟩
  | 103 => ⟨S64x512, .f32⟩
  | 104 => ⟨S512x64x512, .f32⟩
  | 105 => ⟨S512x64x512, .f32⟩
  | 106 => ⟨S512x64x512, .f32⟩
  | 107 => ⟨S_, .f32⟩
  | 108 => ⟨S512x64x512, .f32⟩
  | 109 => ⟨S512x64x512, .f32⟩
  | 110 => ⟨S512x64x512, .f32⟩
  | 111 => ⟨S512x64x256, .f32⟩
  | 112 => ⟨S512x64x1x256, .f32⟩
  | 113 => ⟨S1x1x256, .f32⟩
  | 114 => ⟨S1x1x1x256, .f32⟩
  | 115 => ⟨S512x64x1x256, .f32⟩
  | 116 => ⟨S512x64x1x256, .f32⟩
  | 117 => ⟨S_, .f32⟩
  | 118 => ⟨S512x64x1, .f32⟩
  | 119 => ⟨S1x1x256, .f32⟩
  | 120 => ⟨S1x1x1x256, .f32⟩
  | 121 => ⟨S512x64x1x256, .f32⟩
  | 122 => ⟨S512x64x1x256, .f32⟩
  | 123 => ⟨S_, .f32⟩
  | 124 => ⟨S512x64x1, .f32⟩
  | 125 => ⟨S512x64x1x1, .f32⟩
  | 126 => ⟨S512x1x64x1, .f32⟩
  | 127 => ⟨S512x64x64x1, .f32⟩
  | _ => ⟨S512x64x256, .f32⟩

abbrev hbmTy0_3 (i : Nat) : BufTy := match i % 128 with
  | 0 => ⟨S512x64x64x1, .f32⟩
  | 1 => ⟨S512x64x64x1, .f32⟩
  | 2 => ⟨S_, .f32⟩
  | 3 => ⟨S_, .f32⟩
  | 4 => ⟨S512x64x64x1, .f32⟩
  | 5 => ⟨S512x64x64x1, .i1⟩
  | 6 => ⟨S_, .f32⟩
  | 7 => ⟨S512x64x64x1, .f32⟩
  | 8 => ⟨S512x64x64x1, .f32⟩
  | 9 => ⟨S512x64x64x1, .f32⟩
  | 10 => ⟨S64x64x1, .i1⟩
  | 11 => ⟨S_, .f32⟩
  | 12 => ⟨S_, .f32⟩
  | 13 => ⟨S64x64x1, .f32⟩
  | 14 => ⟨S512x64x64x1, .i1⟩
  | 15 => ⟨S512x64x64x1, .f32⟩
  | 16 => ⟨S512x64x64x1, .f32⟩
  | 17 => ⟨S_, .f32⟩
  | 18 => ⟨S512x64x1, .f32⟩
  | 19 => ⟨S_, .f32⟩
  | 20 => ⟨S512x64x1, .f32⟩
  | 21 => ⟨S512x64x1, .f32⟩
  | 22 => ⟨S512x64x1x1, .f32⟩
  | 23 => ⟨S512x64x64x1, .f32⟩
  | 24 => ⟨S512x64x64x1, .f32⟩
  | 25 => ⟨S512x64x64x1, .f32⟩
  | 26 => ⟨S_, .f32⟩
  | 27 => ⟨S512x64x1, .f32⟩
  | 28 => ⟨S512x64x1x1, .f32⟩
  | 29 => ⟨S512x64x64x1, .f32⟩
  | 30 => ⟨S512x64x64x1, .f32⟩
  | 31 => ⟨S512x1x256x64, .f32⟩
  | 32 => ⟨S512x64x1x256, .f32⟩
  | 33 => ⟨S_, .f32⟩
  | 34 => ⟨S512x64x256, .f32⟩
  | 35 => ⟨S_, .f32⟩
  | 36 => ⟨S512x64x256, .f32⟩
  | 37 => ⟨S512x64x256, .f32⟩
  | 38 => ⟨S1x256, .f32⟩
  | 39 => ⟨S1x1x256, .f32⟩
  | 40 => ⟨S512x64x256, .f32⟩
  | 41 => ⟨S512x64x256, .f32⟩
  | 42 => ⟨S512x64x512, .f32⟩
  | 43 => ⟨S512x64x256, .f32⟩
  | 44 => ⟨S1x1x256, .f32⟩
  | 45 => ⟨S512x64x256, .f32⟩
  | 46 => ⟨S512x64x256, .f32⟩
  | 47 => ⟨S_, .f32⟩
  | 48 => ⟨S512x64, .f32⟩
  | 49 => ⟨S512x64x1, .f32⟩
  | 50 => ⟨S_, .f32⟩
  | 51 => ⟨S512x64x1, .f32⟩
  | 52 => ⟨S512x64x1, .f32⟩
  | 53 => ⟨S_, .i32⟩
  | 54 => ⟨S_, .f32⟩
  | 55 => ⟨S512x64, .f32⟩
  | 56 => ⟨S512x64x1, .f32⟩
  | 57 => ⟨S_, .f32⟩
  | 58 => ⟨S512x64x1, .f32⟩
  | 59 => ⟨S512x64x1, .f32⟩
  | 60 => ⟨S512x64x256, .f32⟩
  | 61 => ⟨S512x64x256, .f32⟩
  | 62 => ⟨S512x64x256, .f32⟩
  | 63 => ⟨S_, .f32⟩
  | 64 => ⟨S_, .f32⟩
  | 65 => ⟨S_, .f32⟩
  | 66 => ⟨S_, .f32⟩
  | 67 => ⟨S512x64, .f32⟩
  | 68 => ⟨S512x64x1, .f32⟩
  | 69 => ⟨S512x64x1, .f32⟩
  | 70 => ⟨S512x64x1, .f32⟩
  | 71 => ⟨S_, .f32⟩
  | 72 => ⟨S_, .i1⟩
  | 73 => ⟨S_, .f32⟩
  | 74 => ⟨S_, .f32⟩
  | 75 => ⟨S512x64x1, .f32⟩
  | 76 => ⟨S512x64x1, .f32⟩
  | 77 => ⟨S512x64x256, .f32⟩
  | 78 => ⟨S512x64x256, .f32⟩
  | 79 => ⟨S_, .f32⟩
  | 80 => ⟨S512x64x1, .f32⟩
  | 81 => ⟨S512x64x1, .f32⟩
  | 82 => ⟨S512x64x1, .f32⟩
  | 83 => ⟨S512x64x256, .f32⟩
  | 84 => ⟨S512x64x256, .f32⟩
  | 85 => ⟨S1x1x256, .f32⟩
  | 86 => ⟨S512x64x256, .f32⟩
  | 87 => ⟨S512x64x256, .f32⟩
  | 88 => ⟨S1x1x256, .f32⟩
  | 89 => ⟨S512x64x256, .f32⟩
  | 90 => ⟨S512x64x256, .f32⟩
  | 91 => ⟨S512x64x256, .f32⟩
  | 92 => ⟨S512x64x256, .f32⟩
  | 93 => ⟨S_, .f32⟩
  | 94 => ⟨S512x64x256, .f32⟩
  | 95 => ⟨S512x64x256, .f32⟩
  | 96 => ⟨S512x64x256, .f32⟩
  | 97 => ⟨S_, .f32⟩
  | 98 => ⟨S512x64x256, .f32⟩
  | 99 => ⟨S512x64x256, .f32⟩
  | 100 => ⟨S512x64x256, .f32⟩
  | 101 => ⟨S_, .f32⟩
  | 102 => ⟨S512x64x256, .f32⟩
  | 103 => ⟨S512x64x256, .f32⟩
  | 104 => ⟨S_, .f32⟩
  | 105 => ⟨S512x64x256, .f32⟩
  | 106 => ⟨S512x64x256, .f32⟩
  | 107 => ⟨S512x64x256, .f32⟩
  | _ => ⟨S512x64x256, .f32⟩

abbrev hbmTy (i : Nat) : BufTy := match i / 128 with
  | 0 => hbmTy0_0 i
  | 1 => hbmTy0_1 i
  | 2 => hbmTy0_2 i
  | 3 => hbmTy0_3 i
  | _ => ⟨S512x64x256, .f32⟩

abbrev bufTy : (tb : Table) → Fin (tcTables nBuf tb) → BufTy
  | .hbm, ⟨i, _⟩ => hbmTy i
  | _, _ => ⟨S512x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_cst : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_cst_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_1 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_2 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_3 : Ref sig .tc := ⟨.hbm, 66, rfl⟩
abbrev main_cst_4 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_v35 : Ref sig .tc := ⟨.hbm, 73, rfl⟩
abbrev main_v36 : Ref sig .tc := ⟨.hbm, 74, rfl⟩
abbrev main_cst_5 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_6 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_c : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_cst_7 : Ref sig .tc := ⟨.hbm, 90, rfl⟩
abbrev main_v49 : Ref sig .tc := ⟨.hbm, 91, rfl⟩
abbrev main_v50 : Ref sig .tc := ⟨.hbm, 92, rfl⟩
abbrev main_cst_8 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_9 : Ref sig .tc := ⟨.hbm, 97, rfl⟩
abbrev main_cst_10 : Ref sig .tc := ⟨.hbm, 98, rfl⟩
abbrev main_call1_v0 : Ref sig .tc := ⟨.hbm, 99, rfl⟩
abbrev main_call1_v1 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_cst_11 : Ref sig .tc := ⟨.hbm, 104, rfl⟩
abbrev main_v57 : Ref sig .tc := ⟨.hbm, 105, rfl⟩
abbrev main_cst_12 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_cst_13 : Ref sig .tc := ⟨.hbm, 123, rfl⟩
abbrev main_v74 : Ref sig .tc := ⟨.hbm, 124, rfl⟩
abbrev main_v75 : Ref sig .tc := ⟨.hbm, 125, rfl⟩
abbrev main_cst_14 : Ref sig .tc := ⟨.hbm, 126, rfl⟩
abbrev main_v76 : Ref sig .tc := ⟨.hbm, 127, rfl⟩
abbrev main_v77 : Ref sig .tc := ⟨.hbm, 128, rfl⟩
abbrev main_c_15 : Ref sig .tc := ⟨.hbm, 129, rfl⟩
abbrev main_call2_cst : Ref sig .tc := ⟨.hbm, 130, rfl⟩
abbrev main_call2_v0 : Ref sig .tc := ⟨.hbm, 131, rfl⟩
abbrev main_call2_v1 : Ref sig .tc := ⟨.hbm, 132, rfl⟩
abbrev main_call2_cst_0 : Ref sig .tc := ⟨.hbm, 133, rfl⟩
abbrev main_call2_v2 : Ref sig .tc := ⟨.hbm, 134, rfl⟩
abbrev main_call2_v3 : Ref sig .tc := ⟨.hbm, 135, rfl⟩
abbrev main_call2_v4 : Ref sig .tc := ⟨.hbm, 136, rfl⟩
abbrev main_call2_v5 : Ref sig .tc := ⟨.hbm, 137, rfl⟩
abbrev main_call2_v6 : Ref sig .tc := ⟨.hbm, 138, rfl⟩
abbrev main_call2_v7 : Ref sig .tc := ⟨.hbm, 139, rfl⟩
abbrev main_call2_cst_1 : Ref sig .tc := ⟨.hbm, 140, rfl⟩
abbrev main_call2_v8 : Ref sig .tc := ⟨.hbm, 141, rfl⟩
abbrev main_call2_cst_2 : Ref sig .tc := ⟨.hbm, 142, rfl⟩
abbrev main_call2_v9 : Ref sig .tc := ⟨.hbm, 143, rfl⟩
abbrev main_call2_v10 : Ref sig .tc := ⟨.hbm, 144, rfl⟩
abbrev main_call2_v11 : Ref sig .tc := ⟨.hbm, 145, rfl⟩
abbrev main_call2_v12 : Ref sig .tc := ⟨.hbm, 146, rfl⟩
abbrev main_call2_cst_3 : Ref sig .tc := ⟨.hbm, 147, rfl⟩
abbrev main_call2_v13 : Ref sig .tc := ⟨.hbm, 148, rfl⟩
abbrev main_call2_cst_4 : Ref sig .tc := ⟨.hbm, 149, rfl⟩
abbrev main_call2_call0_v0 : Ref sig .tc := ⟨.hbm, 150, rfl⟩
abbrev main_call2_call0_v1 : Ref sig .tc := ⟨.hbm, 151, rfl⟩
abbrev main_call2_call0_v2 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_cst_16 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_call3_cst : Ref sig .tc := ⟨.hbm, 170, rfl⟩
abbrev main_call3_v0 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_cst_17 : Ref sig .tc := ⟨.hbm, 180, rfl⟩
abbrev main_v102 : Ref sig .tc := ⟨.hbm, 181, rfl⟩
abbrev main_v103 : Ref sig .tc := ⟨.hbm, 182, rfl⟩
abbrev main_cst_18 : Ref sig .tc := ⟨.hbm, 183, rfl⟩
abbrev main_v104 : Ref sig .tc := ⟨.hbm, 184, rfl⟩
abbrev main_v105 : Ref sig .tc := ⟨.hbm, 185, rfl⟩
abbrev main_c_19 : Ref sig .tc := ⟨.hbm, 186, rfl⟩
abbrev main_call4_cst : Ref sig .tc := ⟨.hbm, 187, rfl⟩
abbrev main_call4_v0 : Ref sig .tc := ⟨.hbm, 188, rfl⟩
abbrev main_call4_v1 : Ref sig .tc := ⟨.hbm, 189, rfl⟩
abbrev main_call4_cst_0 : Ref sig .tc := ⟨.hbm, 190, rfl⟩
abbrev main_call4_v2 : Ref sig .tc := ⟨.hbm, 191, rfl⟩
abbrev main_call4_v3 : Ref sig .tc := ⟨.hbm, 192, rfl⟩
abbrev main_call4_v4 : Ref sig .tc := ⟨.hbm, 193, rfl⟩
abbrev main_call4_v5 : Ref sig .tc := ⟨.hbm, 194, rfl⟩
abbrev main_call4_v6 : Ref sig .tc := ⟨.hbm, 195, rfl⟩
abbrev main_call4_v7 : Ref sig .tc := ⟨.hbm, 196, rfl⟩
abbrev main_call4_cst_1 : Ref sig .tc := ⟨.hbm, 197, rfl⟩
abbrev main_call4_v8 : Ref sig .tc := ⟨.hbm, 198, rfl⟩
abbrev main_call4_cst_2 : Ref sig .tc := ⟨.hbm, 199, rfl⟩
abbrev main_call4_v9 : Ref sig .tc := ⟨.hbm, 200, rfl⟩
abbrev main_call4_v10 : Ref sig .tc := ⟨.hbm, 201, rfl⟩
abbrev main_call4_v11 : Ref sig .tc := ⟨.hbm, 202, rfl⟩
abbrev main_call4_v12 : Ref sig .tc := ⟨.hbm, 203, rfl⟩
abbrev main_call4_cst_3 : Ref sig .tc := ⟨.hbm, 204, rfl⟩
abbrev main_call4_v13 : Ref sig .tc := ⟨.hbm, 205, rfl⟩
abbrev main_call4_cst_4 : Ref sig .tc := ⟨.hbm, 206, rfl⟩
abbrev main_call4_call0_v0 : Ref sig .tc := ⟨.hbm, 207, rfl⟩
abbrev main_call4_call0_v1 : Ref sig .tc := ⟨.hbm, 208, rfl⟩
abbrev main_call4_call0_v2 : Ref sig .tc := ⟨.hbm, 209, rfl⟩
abbrev main_v106 : Ref sig .tc := ⟨.hbm, 210, rfl⟩
abbrev main_v107 : Ref sig .tc := ⟨.hbm, 211, rfl⟩
abbrev main_v108 : Ref sig .tc := ⟨.hbm, 212, rfl⟩
abbrev main_cst_20 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_call5_cst : Ref sig .tc := ⟨.hbm, 227, rfl⟩
abbrev main_call5_v0 : Ref sig .tc := ⟨.hbm, 228, rfl⟩
abbrev main_v122 : Ref sig .tc := ⟨.hbm, 229, rfl⟩
abbrev main_v123 : Ref sig .tc := ⟨.hbm, 230, rfl⟩
abbrev main_v124 : Ref sig .tc := ⟨.hbm, 231, rfl⟩
abbrev main_v125 : Ref sig .tc := ⟨.hbm, 232, rfl⟩
abbrev main_v126 : Ref sig .tc := ⟨.hbm, 233, rfl⟩
abbrev main_v127 : Ref sig .tc := ⟨.hbm, 234, rfl⟩
abbrev main_v128 : Ref sig .tc := ⟨.hbm, 235, rfl⟩
abbrev main_v129 : Ref sig .tc := ⟨.hbm, 236, rfl⟩
abbrev main_cst_21 : Ref sig .tc := ⟨.hbm, 237, rfl⟩
abbrev main_v130 : Ref sig .tc := ⟨.hbm, 238, rfl⟩
abbrev main_v131 : Ref sig .tc := ⟨.hbm, 239, rfl⟩
abbrev main_cst_22 : Ref sig .tc := ⟨.hbm, 240, rfl⟩
abbrev main_v132 : Ref sig .tc := ⟨.hbm, 241, rfl⟩
abbrev main_v133 : Ref sig .tc := ⟨.hbm, 242, rfl⟩
abbrev main_c_23 : Ref sig .tc := ⟨.hbm, 243, rfl⟩
abbrev main_call6_cst : Ref sig .tc := ⟨.hbm, 244, rfl⟩
abbrev main_call6_v0 : Ref sig .tc := ⟨.hbm, 245, rfl⟩
abbrev main_call6_v1 : Ref sig .tc := ⟨.hbm, 246, rfl⟩
abbrev main_call6_cst_0 : Ref sig .tc := ⟨.hbm, 247, rfl⟩
abbrev main_call6_v2 : Ref sig .tc := ⟨.hbm, 248, rfl⟩
abbrev main_call6_v3 : Ref sig .tc := ⟨.hbm, 249, rfl⟩
abbrev main_call6_v4 : Ref sig .tc := ⟨.hbm, 250, rfl⟩
abbrev main_call6_v5 : Ref sig .tc := ⟨.hbm, 251, rfl⟩
abbrev main_call6_v6 : Ref sig .tc := ⟨.hbm, 252, rfl⟩
abbrev main_call6_v7 : Ref sig .tc := ⟨.hbm, 253, rfl⟩
abbrev main_call6_cst_1 : Ref sig .tc := ⟨.hbm, 254, rfl⟩
abbrev main_call6_v8 : Ref sig .tc := ⟨.hbm, 255, rfl⟩
abbrev main_call6_cst_2 : Ref sig .tc := ⟨.hbm, 256, rfl⟩
abbrev main_call6_v9 : Ref sig .tc := ⟨.hbm, 257, rfl⟩
abbrev main_call6_v10 : Ref sig .tc := ⟨.hbm, 258, rfl⟩
abbrev main_call6_v11 : Ref sig .tc := ⟨.hbm, 259, rfl⟩
abbrev main_call6_v12 : Ref sig .tc := ⟨.hbm, 260, rfl⟩
abbrev main_call6_cst_3 : Ref sig .tc := ⟨.hbm, 261, rfl⟩
abbrev main_call6_v13 : Ref sig .tc := ⟨.hbm, 262, rfl⟩
abbrev main_call6_cst_4 : Ref sig .tc := ⟨.hbm, 263, rfl⟩
abbrev main_call6_call0_v0 : Ref sig .tc := ⟨.hbm, 264, rfl⟩
abbrev main_call6_call0_v1 : Ref sig .tc := ⟨.hbm, 265, rfl⟩
abbrev main_call6_call0_v2 : Ref sig .tc := ⟨.hbm, 266, rfl⟩
abbrev main_v134 : Ref sig .tc := ⟨.hbm, 267, rfl⟩
abbrev main_v135 : Ref sig .tc := ⟨.hbm, 268, rfl⟩
abbrev main_v136 : Ref sig .tc := ⟨.hbm, 269, rfl⟩
abbrev main_cst_24 : Ref sig .tc := ⟨.hbm, 270, rfl⟩
abbrev main_v137 : Ref sig .tc := ⟨.hbm, 271, rfl⟩
abbrev main_v138 : Ref sig .tc := ⟨.hbm, 272, rfl⟩
abbrev main_v139 : Ref sig .tc := ⟨.hbm, 273, rfl⟩
abbrev main_v140 : Ref sig .tc := ⟨.hbm, 274, rfl⟩
abbrev main_v141 : Ref sig .tc := ⟨.hbm, 275, rfl⟩
abbrev main_v142 : Ref sig .tc := ⟨.hbm, 276, rfl⟩
abbrev main_v143 : Ref sig .tc := ⟨.hbm, 277, rfl⟩
abbrev main_v144 : Ref sig .tc := ⟨.hbm, 278, rfl⟩
abbrev main_v145 : Ref sig .tc := ⟨.hbm, 279, rfl⟩
abbrev main_v146 : Ref sig .tc := ⟨.hbm, 280, rfl⟩
abbrev main_v147 : Ref sig .tc := ⟨.hbm, 281, rfl⟩
abbrev main_v148 : Ref sig .tc := ⟨.hbm, 282, rfl⟩
abbrev main_v149 : Ref sig .tc := ⟨.hbm, 283, rfl⟩
abbrev main_v150 : Ref sig .tc := ⟨.hbm, 284, rfl⟩
abbrev main_v151 : Ref sig .tc := ⟨.hbm, 285, rfl⟩
abbrev main_v152 : Ref sig .tc := ⟨.hbm, 286, rfl⟩
abbrev main_v153 : Ref sig .tc := ⟨.hbm, 287, rfl⟩
abbrev main_v154 : Ref sig .tc := ⟨.hbm, 288, rfl⟩
abbrev main_v155 : Ref sig .tc := ⟨.hbm, 289, rfl⟩
abbrev main_v156 : Ref sig .tc := ⟨.hbm, 290, rfl⟩
abbrev main_v157 : Ref sig .tc := ⟨.hbm, 291, rfl⟩
abbrev main_c_25 : Ref sig .tc := ⟨.hbm, 292, rfl⟩
abbrev main_v158 : Ref sig .tc := ⟨.hbm, 293, rfl⟩
abbrev main_v159 : Ref sig .tc := ⟨.hbm, 294, rfl⟩
abbrev main_v160 : Ref sig .tc := ⟨.hbm, 295, rfl⟩
abbrev main_v161 : Ref sig .tc := ⟨.hbm, 296, rfl⟩
abbrev main_v162 : Ref sig .tc := ⟨.hbm, 297, rfl⟩
abbrev main_v163 : Ref sig .tc := ⟨.hbm, 298, rfl⟩
abbrev main_v164 : Ref sig .tc := ⟨.hbm, 299, rfl⟩
abbrev main_v165 : Ref sig .tc := ⟨.hbm, 300, rfl⟩
abbrev main_cst_26 : Ref sig .tc := ⟨.hbm, 301, rfl⟩
abbrev main_v166 : Ref sig .tc := ⟨.hbm, 302, rfl⟩
abbrev main_v167 : Ref sig .tc := ⟨.hbm, 303, rfl⟩
abbrev main_v168 : Ref sig .tc := ⟨.hbm, 304, rfl⟩
abbrev main_v169 : Ref sig .tc := ⟨.hbm, 305, rfl⟩
abbrev main_v170 : Ref sig .tc := ⟨.hbm, 306, rfl⟩
abbrev main_cst_27 : Ref sig .tc := ⟨.hbm, 307, rfl⟩
abbrev main_v171 : Ref sig .tc := ⟨.hbm, 308, rfl⟩
abbrev main_v172 : Ref sig .tc := ⟨.hbm, 309, rfl⟩
abbrev main_v173 : Ref sig .tc := ⟨.hbm, 310, rfl⟩
abbrev main_v174 : Ref sig .tc := ⟨.hbm, 311, rfl⟩
abbrev main_v175 : Ref sig .tc := ⟨.hbm, 312, rfl⟩
abbrev main_v176 : Ref sig .tc := ⟨.hbm, 313, rfl⟩
abbrev main_cst_28 : Ref sig .tc := ⟨.hbm, 314, rfl⟩
abbrev main_call7_cst : Ref sig .tc := ⟨.hbm, 315, rfl⟩
abbrev main_call7_v0 : Ref sig .tc := ⟨.hbm, 316, rfl⟩
abbrev main_call7_v1 : Ref sig .tc := ⟨.hbm, 317, rfl⟩
abbrev main_call7_v2 : Ref sig .tc := ⟨.hbm, 318, rfl⟩
abbrev main_call7_v3 : Ref sig .tc := ⟨.hbm, 319, rfl⟩
abbrev main_call7_v4 : Ref sig .tc := ⟨.hbm, 320, rfl⟩
abbrev main_v177 : Ref sig .tc := ⟨.hbm, 321, rfl⟩
abbrev main_v178 : Ref sig .tc := ⟨.hbm, 322, rfl⟩
abbrev main_cst_29 : Ref sig .tc := ⟨.hbm, 323, rfl⟩
abbrev main_call8_v0 : Ref sig .tc := ⟨.hbm, 324, rfl⟩
abbrev main_call8_v1 : Ref sig .tc := ⟨.hbm, 325, rfl⟩
abbrev main_call8_v2 : Ref sig .tc := ⟨.hbm, 326, rfl⟩
abbrev main_call8_v3 : Ref sig .tc := ⟨.hbm, 327, rfl⟩
abbrev main_call8_v4 : Ref sig .tc := ⟨.hbm, 328, rfl⟩
abbrev main_v179 : Ref sig .tc := ⟨.hbm, 329, rfl⟩
abbrev main_cst_30 : Ref sig .tc := ⟨.hbm, 330, rfl⟩
abbrev main_v180 : Ref sig .tc := ⟨.hbm, 331, rfl⟩
abbrev main_cst_31 : Ref sig .tc := ⟨.hbm, 332, rfl⟩
abbrev main_v181 : Ref sig .tc := ⟨.hbm, 333, rfl⟩
abbrev main_v182 : Ref sig .tc := ⟨.hbm, 334, rfl⟩
abbrev main_v183 : Ref sig .tc := ⟨.hbm, 335, rfl⟩
abbrev main_v184 : Ref sig .tc := ⟨.hbm, 336, rfl⟩
abbrev main_v185 : Ref sig .tc := ⟨.hbm, 337, rfl⟩
abbrev main_v186 : Ref sig .tc := ⟨.hbm, 338, rfl⟩
abbrev main_cst_32 : Ref sig .tc := ⟨.hbm, 339, rfl⟩
abbrev main_v187 : Ref sig .tc := ⟨.hbm, 340, rfl⟩
abbrev main_v188 : Ref sig .tc := ⟨.hbm, 341, rfl⟩
abbrev main_v189 : Ref sig .tc := ⟨.hbm, 342, rfl⟩
abbrev main_v190 : Ref sig .tc := ⟨.hbm, 343, rfl⟩
abbrev main_v191 : Ref sig .tc := ⟨.hbm, 344, rfl⟩
abbrev main_v192 : Ref sig .tc := ⟨.hbm, 345, rfl⟩
abbrev main_v193 : Ref sig .tc := ⟨.hbm, 346, rfl⟩
abbrev main_v194 : Ref sig .tc := ⟨.hbm, 347, rfl⟩
abbrev main_v195 : Ref sig .tc := ⟨.hbm, 348, rfl⟩
abbrev main_v196 : Ref sig .tc := ⟨.hbm, 349, rfl⟩
abbrev main_v197 : Ref sig .tc := ⟨.hbm, 350, rfl⟩
abbrev main_call9_cst : Ref sig .tc := ⟨.hbm, 351, rfl⟩
abbrev main_call9_v0 : Ref sig .tc := ⟨.hbm, 352, rfl⟩
abbrev main_call9_v1 : Ref sig .tc := ⟨.hbm, 353, rfl⟩
abbrev main_call9_cst_0 : Ref sig .tc := ⟨.hbm, 354, rfl⟩
abbrev main_call9_v2 : Ref sig .tc := ⟨.hbm, 355, rfl⟩
abbrev main_call9_v3 : Ref sig .tc := ⟨.hbm, 356, rfl⟩
abbrev main_call9_cst_1 : Ref sig .tc := ⟨.hbm, 357, rfl⟩
abbrev main_call9_call0_v0 : Ref sig .tc := ⟨.hbm, 358, rfl⟩
abbrev main_call9_call0_v1 : Ref sig .tc := ⟨.hbm, 359, rfl⟩
abbrev main_call9_call0_v2 : Ref sig .tc := ⟨.hbm, 360, rfl⟩
abbrev main_call9_v4 : Ref sig .tc := ⟨.hbm, 361, rfl⟩
abbrev main_call9_v5 : Ref sig .tc := ⟨.hbm, 362, rfl⟩
abbrev main_call9_cst_2 : Ref sig .tc := ⟨.hbm, 363, rfl⟩
abbrev main_call9_v6 : Ref sig .tc := ⟨.hbm, 364, rfl⟩
abbrev main_call9_v7 : Ref sig .tc := ⟨.hbm, 365, rfl⟩
abbrev main_v198 : Ref sig .tc := ⟨.hbm, 366, rfl⟩
abbrev main_v199 : Ref sig .tc := ⟨.hbm, 367, rfl⟩
abbrev main_v200 : Ref sig .tc := ⟨.hbm, 368, rfl⟩
abbrev main_v201 : Ref sig .tc := ⟨.hbm, 369, rfl⟩
abbrev main_v202 : Ref sig .tc := ⟨.hbm, 370, rfl⟩
abbrev main_v203 : Ref sig .tc := ⟨.hbm, 371, rfl⟩
abbrev main_v204 : Ref sig .tc := ⟨.hbm, 372, rfl⟩
abbrev main_cst_33 : Ref sig .tc := ⟨.hbm, 373, rfl⟩
abbrev main_v205 : Ref sig .tc := ⟨.hbm, 374, rfl⟩
abbrev main_v206 : Ref sig .tc := ⟨.hbm, 375, rfl⟩
abbrev main_v207 : Ref sig .tc := ⟨.hbm, 376, rfl⟩
abbrev main_v208 : Ref sig .tc := ⟨.hbm, 377, rfl⟩
abbrev main_v209 : Ref sig .tc := ⟨.hbm, 378, rfl⟩
abbrev main_cst_34 : Ref sig .tc := ⟨.hbm, 379, rfl⟩
abbrev main_v210 : Ref sig .tc := ⟨.hbm, 380, rfl⟩
abbrev main_v211 : Ref sig .tc := ⟨.hbm, 381, rfl⟩
abbrev main_v212 : Ref sig .tc := ⟨.hbm, 382, rfl⟩
abbrev main_v213 : Ref sig .tc := ⟨.hbm, 383, rfl⟩
abbrev main_v214 : Ref sig .tc := ⟨.hbm, 384, rfl⟩
abbrev main_v215 : Ref sig .tc := ⟨.hbm, 385, rfl⟩
abbrev main_cst_35 : Ref sig .tc := ⟨.hbm, 386, rfl⟩
abbrev main_call10_cst : Ref sig .tc := ⟨.hbm, 387, rfl⟩
abbrev main_call10_v0 : Ref sig .tc := ⟨.hbm, 388, rfl⟩
abbrev main_call10_v1 : Ref sig .tc := ⟨.hbm, 389, rfl⟩
abbrev main_call10_v2 : Ref sig .tc := ⟨.hbm, 390, rfl⟩
abbrev main_call10_v3 : Ref sig .tc := ⟨.hbm, 391, rfl⟩
abbrev main_call10_v4 : Ref sig .tc := ⟨.hbm, 392, rfl⟩
abbrev main_v216 : Ref sig .tc := ⟨.hbm, 393, rfl⟩
abbrev main_v217 : Ref sig .tc := ⟨.hbm, 394, rfl⟩
abbrev main_cst_36 : Ref sig .tc := ⟨.hbm, 395, rfl⟩
abbrev main_call11_v0 : Ref sig .tc := ⟨.hbm, 396, rfl⟩
abbrev main_call11_v1 : Ref sig .tc := ⟨.hbm, 397, rfl⟩
abbrev main_call11_v2 : Ref sig .tc := ⟨.hbm, 398, rfl⟩
abbrev main_call11_v3 : Ref sig .tc := ⟨.hbm, 399, rfl⟩
abbrev main_v218 : Ref sig .tc := ⟨.hbm, 400, rfl⟩
abbrev main_cst_37 : Ref sig .tc := ⟨.hbm, 401, rfl⟩
abbrev main_v219 : Ref sig .tc := ⟨.hbm, 402, rfl⟩
abbrev main_cst_38 : Ref sig .tc := ⟨.hbm, 403, rfl⟩
abbrev main_v220 : Ref sig .tc := ⟨.hbm, 404, rfl⟩
abbrev main_v221 : Ref sig .tc := ⟨.hbm, 405, rfl⟩
abbrev main_v222 : Ref sig .tc := ⟨.hbm, 406, rfl⟩
abbrev main_v223 : Ref sig .tc := ⟨.hbm, 407, rfl⟩
abbrev main_v224 : Ref sig .tc := ⟨.hbm, 408, rfl⟩
abbrev main_v225 : Ref sig .tc := ⟨.hbm, 409, rfl⟩
abbrev main_cst_39 : Ref sig .tc := ⟨.hbm, 410, rfl⟩
abbrev main_v226 : Ref sig .tc := ⟨.hbm, 411, rfl⟩
abbrev main_v227 : Ref sig .tc := ⟨.hbm, 412, rfl⟩
abbrev main_v228 : Ref sig .tc := ⟨.hbm, 413, rfl⟩
abbrev main_v229 : Ref sig .tc := ⟨.hbm, 414, rfl⟩
abbrev main_v230 : Ref sig .tc := ⟨.hbm, 415, rfl⟩
abbrev main_v231 : Ref sig .tc := ⟨.hbm, 416, rfl⟩
abbrev main_cst_40 : Ref sig .tc := ⟨.hbm, 417, rfl⟩
abbrev main_v232 : Ref sig .tc := ⟨.hbm, 418, rfl⟩
abbrev main_cst_41 : Ref sig .tc := ⟨.hbm, 419, rfl⟩
abbrev main_v233 : Ref sig .tc := ⟨.hbm, 420, rfl⟩
abbrev main_v234 : Ref sig .tc := ⟨.hbm, 421, rfl⟩
abbrev main_v235 : Ref sig .tc := ⟨.hbm, 422, rfl⟩
abbrev main_v236 : Ref sig .tc := ⟨.hbm, 423, rfl⟩
abbrev main_v237 : Ref sig .tc := ⟨.hbm, 424, rfl⟩
abbrev main_v238 : Ref sig .tc := ⟨.hbm, 425, rfl⟩
abbrev main_v239 : Ref sig .tc := ⟨.hbm, 426, rfl⟩
abbrev main_v240 : Ref sig .tc := ⟨.hbm, 427, rfl⟩
abbrev main_v241 : Ref sig .tc := ⟨.hbm, 428, rfl⟩
abbrev main_v242 : Ref sig .tc := ⟨.hbm, 429, rfl⟩
abbrev main_v243 : Ref sig .tc := ⟨.hbm, 430, rfl⟩
abbrev main_cst_42 : Ref sig .tc := ⟨.hbm, 431, rfl⟩
abbrev main_v244 : Ref sig .tc := ⟨.hbm, 432, rfl⟩
abbrev main_v245 : Ref sig .tc := ⟨.hbm, 433, rfl⟩
abbrev main_cst_43 : Ref sig .tc := ⟨.hbm, 434, rfl⟩
abbrev main_v246 : Ref sig .tc := ⟨.hbm, 435, rfl⟩
abbrev main_v247 : Ref sig .tc := ⟨.hbm, 436, rfl⟩
abbrev main_c_44 : Ref sig .tc := ⟨.hbm, 437, rfl⟩
abbrev main_call12_cst : Ref sig .tc := ⟨.hbm, 438, rfl⟩
abbrev main_call12_v0 : Ref sig .tc := ⟨.hbm, 439, rfl⟩
abbrev main_call12_v1 : Ref sig .tc := ⟨.hbm, 440, rfl⟩
abbrev main_call12_cst_0 : Ref sig .tc := ⟨.hbm, 441, rfl⟩
abbrev main_call12_v2 : Ref sig .tc := ⟨.hbm, 442, rfl⟩
abbrev main_call12_v3 : Ref sig .tc := ⟨.hbm, 443, rfl⟩
abbrev main_call12_v4 : Ref sig .tc := ⟨.hbm, 444, rfl⟩
abbrev main_call12_v5 : Ref sig .tc := ⟨.hbm, 445, rfl⟩
abbrev main_call12_v6 : Ref sig .tc := ⟨.hbm, 446, rfl⟩
abbrev main_call12_v7 : Ref sig .tc := ⟨.hbm, 447, rfl⟩
abbrev main_call12_cst_1 : Ref sig .tc := ⟨.hbm, 448, rfl⟩
abbrev main_call12_v8 : Ref sig .tc := ⟨.hbm, 449, rfl⟩
abbrev main_call12_cst_2 : Ref sig .tc := ⟨.hbm, 450, rfl⟩
abbrev main_call12_v9 : Ref sig .tc := ⟨.hbm, 451, rfl⟩
abbrev main_call12_v10 : Ref sig .tc := ⟨.hbm, 452, rfl⟩
abbrev main_call12_v11 : Ref sig .tc := ⟨.hbm, 453, rfl⟩
abbrev main_call12_v12 : Ref sig .tc := ⟨.hbm, 454, rfl⟩
abbrev main_call12_cst_3 : Ref sig .tc := ⟨.hbm, 455, rfl⟩
abbrev main_call12_v13 : Ref sig .tc := ⟨.hbm, 456, rfl⟩
abbrev main_call12_cst_4 : Ref sig .tc := ⟨.hbm, 457, rfl⟩
abbrev main_call12_call0_v0 : Ref sig .tc := ⟨.hbm, 458, rfl⟩
abbrev main_call12_call0_v1 : Ref sig .tc := ⟨.hbm, 459, rfl⟩
abbrev main_v248 : Ref sig .tc := ⟨.hbm, 460, rfl⟩
abbrev main_v249 : Ref sig .tc := ⟨.hbm, 461, rfl⟩
abbrev main_v250 : Ref sig .tc := ⟨.hbm, 462, rfl⟩
abbrev main_cst_45 : Ref sig .tc := ⟨.hbm, 463, rfl⟩
abbrev main_v251 : Ref sig .tc := ⟨.hbm, 464, rfl⟩
abbrev main_v252 : Ref sig .tc := ⟨.hbm, 465, rfl⟩
abbrev main_v253 : Ref sig .tc := ⟨.hbm, 466, rfl⟩
abbrev main_v254 : Ref sig .tc := ⟨.hbm, 467, rfl⟩
abbrev main_v255 : Ref sig .tc := ⟨.hbm, 468, rfl⟩
abbrev main_v256 : Ref sig .tc := ⟨.hbm, 469, rfl⟩
abbrev main_v257 : Ref sig .tc := ⟨.hbm, 470, rfl⟩
abbrev main_v258 : Ref sig .tc := ⟨.hbm, 471, rfl⟩
abbrev main_v259 : Ref sig .tc := ⟨.hbm, 472, rfl⟩
abbrev main_v260 : Ref sig .tc := ⟨.hbm, 473, rfl⟩
abbrev main_v261 : Ref sig .tc := ⟨.hbm, 474, rfl⟩
abbrev main_v262 : Ref sig .tc := ⟨.hbm, 475, rfl⟩
abbrev main_v263 : Ref sig .tc := ⟨.hbm, 476, rfl⟩
abbrev main_cst_46 : Ref sig .tc := ⟨.hbm, 477, rfl⟩
abbrev main_v264 : Ref sig .tc := ⟨.hbm, 478, rfl⟩
abbrev main_v265 : Ref sig .tc := ⟨.hbm, 479, rfl⟩
abbrev main_v266 : Ref sig .tc := ⟨.hbm, 480, rfl⟩
abbrev main_cst_47 : Ref sig .tc := ⟨.hbm, 481, rfl⟩
abbrev main_v267 : Ref sig .tc := ⟨.hbm, 482, rfl⟩
abbrev main_v268 : Ref sig .tc := ⟨.hbm, 483, rfl⟩
abbrev main_v269 : Ref sig .tc := ⟨.hbm, 484, rfl⟩
abbrev main_cst_48 : Ref sig .tc := ⟨.hbm, 485, rfl⟩
abbrev main_v270 : Ref sig .tc := ⟨.hbm, 486, rfl⟩
abbrev main_v271 : Ref sig .tc := ⟨.hbm, 487, rfl⟩
abbrev main_cst_49 : Ref sig .tc := ⟨.hbm, 488, rfl⟩
abbrev main_v272 : Ref sig .tc := ⟨.hbm, 489, rfl⟩
abbrev main_v273 : Ref sig .tc := ⟨.hbm, 490, rfl⟩
abbrev main_v274 : Ref sig .tc := ⟨.hbm, 491, rfl⟩

abbrev nD : Nat := 1
abbrev τ : Topo := Topo.v7x

variable {F : FTy → Type} [FloatOps F]

def κ : String → Option EReal := fun
  | "mask" => some ⊥
  | _ => none
-- ==== Proof.KernelIdealBody0.lean ====
/- The first call's body, run at the first grid point and at a later one. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.UnfoldOut

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (V : (c : Dev nD) → (b : Ref sig .tc) → Buf (Elt F) ((c : Thread nD τ).loc b))

/-- The block of window `w` of the first call at grid point `t`, read off the array the call is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)

/-- The condition under which the first call's body builds the matrix it keeps between grid points. -/
abbrev cond0_0 (i : grid0.Coords) : Prop := (Scalar.cmpi .ne (Scalar.extui (Scalar.cmpi .eq (BitVec.ofNat 32 (i 0).val) 0#32)) 0#32) = 1#1

/-- That condition holds exactly at the first grid point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

abbrev VO0_15 : View sig .tc .vmem S512x8x256 .f32 := (Memref.whole cc0_stg15_0 : Memref sig .tc .vmem S512x8x256 .f32).view

abbrev ms0_0 (t : Fin cfg0.N) : Memref sig .tc .vmem S512x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x8x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S512x8x256 .f32 := win0_15.stage (cfg0.slots t 15)
abbrev hs0_15 (t : Fin cfg0.N) : (ms0_15 t).IsWhole := hstage0_15 ((cfg0.slots t 15).cast nbuf0_15)

abbrev scM0_0 : Memref sig .tc .vmem S512x512 .bf16 := Memref.whole cc0_scratch0

abbrev VS0_0 : View sig .tc .vmem S512x512 .bf16 := scM0_0.view

/-- The buffers the second call stages through, at some contents: they ride along the first call untouched. -/
def rest0 (c : Dev nD) : sProp (MT nD τ sig Unit (Elt F) ℕ (UR sig nD τ) ℕ) :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg12_0), ((c : Thread nD τ).loc cc1_stg12_0) ↦{fullShare} f) ∗ (∃ f : Buf (Elt F) ((c : Thread nD τ).loc cc1_stg13_0), ((c : Thread nD τ).loc cc1_stg13_0) ↦{fullShare} f) ∗ (∃ f : Buf (Elt F) ((c : Thread nD τ).loc cc1_stg14_0), ((c : Thread nD τ).loc cc1_stg14_0) ↦{fullShare} f) ∗ (∃ f : Buf (Elt F) ((c : Thread nD τ).loc cc1_stg14_1), ((c : Thread nD τ).loc cc1_stg14_1) ↦{fullShare} f))

/-- What the launch hands the first call beside its windows: the kept matrix at anything, the other scoped buffers, the generator register. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

set_option maxHeartbeats 1000000 in

/-- The body of the first call at the first grid point, run on any buffers: what its stores leave in the output buffer and in the matrix it keeps, found by running it. -/
noncomputable def kernelRun0_A (c : Dev nD) (i : grid0.Coords) (arg1 : Memref sig .tc .vmem S512x2 .f32) (harg1 : arg1.IsWhole) (arg2 : Memref sig .tc .vmem S2x512 .f32) (harg2 : arg2.IsWhole) (arg3 : Memref sig .tc .vmem S512x8x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S512x8x256 .f32) (harg16 : arg16.IsWhole) (arg17 : Memref sig .tc .vmem S512x512 .bf16) (harg17 : arg17.IsWhole) (hc0 : cond0_0 i)
    (x0 : Vec F S512x2 .f32) (x1 : Vec F S2x512 .f32) (x2 : Vec F S512x8x256 .f32) (x3 : Vec F S256x128 .f32) (x4 : Vec F S1x128 .f32) (x5 : Vec F S1x128 .f32) (x6 : Vec F S1x128 .f32) (x7 : Vec F S128x128 .f32) (x8 : Vec F S1x128 .f32) (x9 : Vec F S1x128 .f32) (x10 : Vec F S1x128 .f32) (x11 : Vec F S128x256 .f32) (x12 : Vec F S1x256 .f32) (x13 : Vec F S1x256 .f32) (x14 : Vec F S1x256 .f32) :
    Σ' (L15 : List (View.Piece (Elt F) S512x8x256 .f32)), { LS0 : List (View.Piece (Elt F) S512x512 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f LS0)) -∗ K ⟨⟩))
          ⊢ wp frame (wpE (defs₀ (F := F)) Variants.none c none) E (cc0__spatial_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0__spatial_kernel_eq_skeleton]; unfold cc0__spatial_kernel_skel
    simp only [k0_part2_eq_skeleton, k0_part1_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    iexists _; iexact HS0

set_option maxHeartbeats 1000000 in

/-- The body of the first call at a later grid point, run on any buffers: the kept matrix is read and not written. -/
noncomputable def kernelRun0_B (c : Dev nD) (i : grid0.Coords) (arg1 : Memref sig .tc .vmem S512x2 .f32) (harg1 : arg1.IsWhole) (arg2 : Memref sig .tc .vmem S2x512 .f32) (harg2 : arg2.IsWhole) (arg3 : Memref sig .tc .vmem S512x8x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S512x8x256 .f32) (harg16 : arg16.IsWhole) (arg17 : Memref sig .tc .vmem S512x512 .bf16) (harg17 : arg17.IsWhole) (hc0 : ¬cond0_0 i)
    (x0 : Vec F S512x2 .f32) (x1 : Vec F S2x512 .f32) (x2 : Vec F S512x8x256 .f32) (x3 : Vec F S256x128 .f32) (x4 : Vec F S1x128 .f32) (x5 : Vec F S1x128 .f32) (x6 : Vec F S1x128 .f32) (x7 : Vec F S128x128 .f32) (x8 : Vec F S1x128 .f32) (x9 : Vec F S1x128 .f32) (x10 : Vec F S1x128 .f32) (x11 : Vec F S128x256 .f32) (x12 : Vec F S1x256 .f32) (x13 : Vec F S1x256 .f32) (x14 : Vec F S1x256 .f32) (xs0 : Vec F S512x512 .bf16) :
    Σ' (L15 : List (View.Piece (Elt F) S512x8x256 .f32)), { LS0 : List (View.Piece (Elt F) S512x512 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ owns (c : Thread nD τ) arg17 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ owns (c : Thread nD τ) arg17 fullShare xs0) -∗ K ⟨⟩))
          ⊢ wp frame (wpE (defs₀ (F := F)) Variants.none c none) E (cc0__spatial_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, [], fun E K => ?run⟩
  case run =>
    simp only [cc0__spatial_kernel_eq_skeleton]; unfold cc0__spatial_kernel_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg17.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    iexists _; isplitr; · ipureintro; exact harg17.read_unread _
    iexact HS0

end Cert.KernelIdeal.Run

end
-- ==== Proof.KernelIdealRegion0.lean ====
/- The first call: what its output and the matrix it keeps hold after each grid point, and its body at every grid point. -/
module

public import proofs.«01_k».proof.Proof.KernelIdealBody0

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (V : (c : Dev nD) → (b : Ref sig .tc) → Buf (Elt F) ((c : Thread nD τ).loc b))

/-- At the first grid point the body's stores fill the whole output block. -/
theorem cover0_A_15 (c : Dev nD) (i : grid0.Coords) (arg1 : Memref sig .tc .vmem S512x2 .f32) (harg1 : arg1.IsWhole) (arg2 : Memref sig .tc .vmem S2x512 .f32) (harg2 : arg2.IsWhole) (arg3 : Memref sig .tc .vmem S512x8x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S512x8x256 .f32) (harg16 : arg16.IsWhole) (arg17 : Memref sig .tc .vmem S512x512 .bf16) (harg17 : arg17.IsWhole) (hc0 : cond0_0 i)
    (x0 : Vec F S512x2 .f32) (x1 : Vec F S2x512 .f32) (x2 : Vec F S512x8x256 .f32) (x3 : Vec F S256x128 .f32) (x4 : Vec F S1x128 .f32) (x5 : Vec F S1x128 .f32) (x6 : Vec F S1x128 .f32) (x7 : Vec F S128x128 .f32) (x8 : Vec F S1x128 .f32) (x9 : Vec F S1x128 .f32) (x10 : Vec F S1x128 .f32) (x11 : Vec F S128x256 .f32) (x12 : Vec F S1x256 .f32) (x13 : Vec F S1x256 .f32) (x14 : Vec F S1x256 .f32) (y : S512x8x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1 S512x8x256.size (by sl_kernel_rfl) y

/-- The output block the body leaves at the first grid point. -/
def out0_A_15 (c : Dev nD) (i : grid0.Coords) (arg1 : Memref sig .tc .vmem S512x2 .f32) (harg1 : arg1.IsWhole) (arg2 : Memref sig .tc .vmem S2x512 .f32) (harg2 : arg2.IsWhole) (arg3 : Memref sig .tc .vmem S512x8x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S512x8x256 .f32) (harg16 : arg16.IsWhole) (arg17 : Memref sig .tc .vmem S512x512 .bf16) (harg17 : arg17.IsWhole) (hc0 : cond0_0 i)
    (x0 : Vec F S512x2 .f32) (x1 : Vec F S2x512 .f32) (x2 : Vec F S512x8x256 .f32) (x3 : Vec F S256x128 .f32) (x4 : Vec F S1x128 .f32) (x5 : Vec F S1x128 .f32) (x6 : Vec F S1x128 .f32) (x7 : Vec F S128x128 .f32) (x8 : Vec F S1x128 .f32) (x9 : Vec F S1x128 .f32) (x10 : Vec F S1x128 .f32) (x11 : Vec F S128x256 .f32) (x12 : Vec F S1x256 .f32) (x13 : Vec F S1x256 .f32) (x14 : Vec F S1x256 .f32) : Vec F S512x8x256 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1)

/-- At the first grid point the body's stores fill the whole kept matrix. -/
theorem scover0_A_0 (c : Dev nD) (i : grid0.Coords) (arg1 : Memref sig .tc .vmem S512x2 .f32) (harg1 : arg1.IsWhole) (arg2 : Memref sig .tc .vmem S2x512 .f32) (harg2 : arg2.IsWhole) (arg3 : Memref sig .tc .vmem S512x8x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S512x8x256 .f32) (harg16 : arg16.IsWhole) (arg17 : Memref sig .tc .vmem S512x512 .bf16) (harg17 : arg17.IsWhole) (hc0 : cond0_0 i)
    (x0 : Vec F S512x2 .f32) (x1 : Vec F S2x512 .f32) (x2 : Vec F S512x8x256 .f32) (x3 : Vec F S256x128 .f32) (x4 : Vec F S1x128 .f32) (x5 : Vec F S1x128 .f32) (x6 : Vec F S1x128 .f32) (x7 : Vec F S128x128 .f32) (x8 : Vec F S1x128 .f32) (x9 : Vec F S1x128 .f32) (x10 : Vec F S1x128 .f32) (x11 : Vec F S128x256 .f32) (x12 : Vec F S1x256 .f32) (x13 : Vec F S1x256 .f32) (x14 : Vec F S1x256 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1 S512x512.size (by sl_kernel_rfl) y

/-- The matrix the body leaves at the first grid point. -/
def sout0_A_0 (c : Dev nD) (i : grid0.Coords) (arg1 : Memref sig .tc .vmem S512x2 .f32) (harg1 : arg1.IsWhole) (arg2 : Memref sig .tc .vmem S2x512 .f32) (harg2 : arg2.IsWhole) (arg3 : Memref sig .tc .vmem S512x8x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S512x8x256 .f32) (harg16 : arg16.IsWhole) (arg17 : Memref sig .tc .vmem S512x512 .bf16) (harg17 : arg17.IsWhole) (hc0 : cond0_0 i)
    (x0 : Vec F S512x2 .f32) (x1 : Vec F S2x512 .f32) (x2 : Vec F S512x8x256 .f32) (x3 : Vec F S256x128 .f32) (x4 : Vec F S1x128 .f32) (x5 : Vec F S1x128 .f32) (x6 : Vec F S1x128 .f32) (x7 : Vec F S128x128 .f32) (x8 : Vec F S1x128 .f32) (x9 : Vec F S1x128 .f32) (x10 : Vec F S1x128 .f32) (x11 : Vec F S128x256 .f32) (x12 : Vec F S1x256 .f32) (x13 : Vec F S1x256 .f32) (x14 : Vec F S1x256 .f32) : Vec F S512x512 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1)

/-- At a later grid point the body's stores fill the whole output block. -/
theorem cover0_B_15 (c : Dev nD) (i : grid0.Coords) (arg1 : Memref sig .tc .vmem S512x2 .f32) (harg1 : arg1.IsWhole) (arg2 : Memref sig .tc .vmem S2x512 .f32) (harg2 : arg2.IsWhole) (arg3 : Memref sig .tc .vmem S512x8x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S512x8x256 .f32) (harg16 : arg16.IsWhole) (arg17 : Memref sig .tc .vmem S512x512 .bf16) (harg17 : arg17.IsWhole) (hc0 : ¬cond0_0 i)
    (x0 : Vec F S512x2 .f32) (x1 : Vec F S2x512 .f32) (x2 : Vec F S512x8x256 .f32) (x3 : Vec F S256x128 .f32) (x4 : Vec F S1x128 .f32) (x5 : Vec F S1x128 .f32) (x6 : Vec F S1x128 .f32) (x7 : Vec F S128x128 .f32) (x8 : Vec F S1x128 .f32) (x9 : Vec F S1x128 .f32) (x10 : Vec F S1x128 .f32) (x11 : Vec F S128x256 .f32) (x12 : Vec F S1x256 .f32) (x13 : Vec F S1x256 .f32) (x14 : Vec F S1x256 .f32) (xs0 : Vec F S512x512 .bf16) (y : S512x8x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xs0).1 S512x8x256.size (by sl_kernel_rfl) y

/-- The output block the body leaves at a later grid point, given the kept matrix. -/
def out0_B_15 (c : Dev nD) (i : grid0.Coords) (arg1 : Memref sig .tc .vmem S512x2 .f32) (harg1 : arg1.IsWhole) (arg2 : Memref sig .tc .vmem S2x512 .f32) (harg2 : arg2.IsWhole) (arg3 : Memref sig .tc .vmem S512x8x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S512x8x256 .f32) (harg16 : arg16.IsWhole) (arg17 : Memref sig .tc .vmem S512x512 .bf16) (harg17 : arg17.IsWhole) (hc0 : ¬cond0_0 i)
    (x0 : Vec F S512x2 .f32) (x1 : Vec F S2x512 .f32) (x2 : Vec F S512x8x256 .f32) (x3 : Vec F S256x128 .f32) (x4 : Vec F S1x128 .f32) (x5 : Vec F S1x128 .f32) (x6 : Vec F S1x128 .f32) (x7 : Vec F S128x128 .f32) (x8 : Vec F S1x128 .f32) (x9 : Vec F S1x128 .f32) (x10 : Vec F S1x128 .f32) (x11 : Vec F S128x256 .f32) (x12 : Vec F S1x256 .f32) (x13 : Vec F S1x256 .f32) (x14 : Vec F S1x256 .f32) (xs0 : Vec F S512x512 .bf16) : Vec F S512x8x256 .f32 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xs0).1)

/-- The matrix the body leaves at a later grid point: the one it found. -/
def sout0_B_0 (c : Dev nD) (i : grid0.Coords) (arg1 : Memref sig .tc .vmem S512x2 .f32) (harg1 : arg1.IsWhole) (arg2 : Memref sig .tc .vmem S2x512 .f32) (harg2 : arg2.IsWhole) (arg3 : Memref sig .tc .vmem S512x8x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S512x8x256 .f32) (harg16 : arg16.IsWhole) (arg17 : Memref sig .tc .vmem S512x512 .bf16) (harg17 : arg17.IsWhole) (hc0 : ¬cond0_0 i)
    (x0 : Vec F S512x2 .f32) (x1 : Vec F S2x512 .f32) (x2 : Vec F S512x8x256 .f32) (x3 : Vec F S256x128 .f32) (x4 : Vec F S1x128 .f32) (x5 : Vec F S1x128 .f32) (x6 : Vec F S1x128 .f32) (x7 : Vec F S128x128 .f32) (x8 : Vec F S1x128 .f32) (x9 : Vec F S1x128 .f32) (x10 : Vec F S1x128 .f32) (x11 : Vec F S128x256 .f32) (x12 : Vec F S1x256 .f32) (x13 : Vec F S1x256 .f32) (x14 : Vec F S1x256 .f32) (xs0 : Vec F S512x512 .bf16) : Vec F S512x512 .bf16 := xs0

/-- The output block and the kept matrix after the body at the grid point numbered `n`. -/
def outsAt0 (c : Dev nD) : (n : ℕ) → n < cfg0.N → Vec F S512x8x256 .f32 × Vec F S512x512 .bf16
  | 0, hn => (out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩) (iblk0 V c 11 ⟨0, hn⟩) (iblk0 V c 12 ⟨0, hn⟩) (iblk0 V c 13 ⟨0, hn⟩) (iblk0 V c 14 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩) (iblk0 V c 11 ⟨0, hn⟩) (iblk0 V c 12 ⟨0, hn⟩) (iblk0 V c 13 ⟨0, hn⟩) (iblk0 V c 14 ⟨0, hn⟩))
  | n + 1, hn =>
    if h0 : (n + 1) % 8 = 0 then
      (out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩))
    else
      (out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (iblk0 V c 14 ⟨n + 1, hn⟩) (outsAt0 c n (Nat.lt_of_succ_lt hn)).2)

/-- The first grid point's output block and kept matrix. -/
theorem outsAt0_A (c : Dev nD) (t : Fin cfg0.N) (h0 : t.val % 8 = 0) :
    outsAt0 V c t.val t.isLt = (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)) := by
  obtain ⟨n, hn⟩ := t
  cases n with
  | zero => exact rfl
  | succ n => exact (dif_pos h0).trans rfl

/-- A later grid point's output block and kept matrix, from the matrix the point before left. -/
theorem outsAt0_B (c : Dev nD) (t : Fin cfg0.N) (h0 : ¬t.val % 8 = 0) :
    outsAt0 V c t.val t.isLt = (out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- What the first call's body holds between grid points: the kept matrix at what the point before left. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 V c n hn).2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-- The first call's windows: the arrays at entry, each input block left in place, the output block as `outsAt0` says. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => (outsAt0 V c t.val t.isLt).1
    | ⟨_ + 16, h⟩ => absurd h (Nat.not_lt.2 (Nat.le_add_left _ _))
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d

def bodyPre0 (c : Dev nD) (t : Fin cfg0.N) : sProp (MT nD τ sig Unit (Elt F) ℕ (UR sig nD τ) ℕ) :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d))
    ∗ (∃ d, owns (c : Thread nD τ) (ms0_15 t) fullShare ((dat0 V c).before 15 t d)))

def bodyPost0 (c : Dev nD) (t : Fin cfg0.N) : sProp (MT nD τ sig Unit (Elt F) ℕ (UR sig nD τ) ℕ) :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t)
    ∗ owns (c : Thread nD τ) (ms0_13 t) fullShare ((dat0 V c).after 13 t)
    ∗ owns (c : Thread nD τ) (ms0_14 t) fullShare ((dat0 V c).after 14 t)
    ∗ owns (c : Thread nD τ) (ms0_15 t) fullShare ((dat0 V c).after 15 t))

set_option maxHeartbeats 12800000 in

/-- The first call's body at any grid point takes the buffers from what they hold before it to what they hold after it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14]
  rw [show (dat0 V c).owesAt () t.succ = (dat0 V c).owesAt () t.castSucc from rfl,
    after0_0, after0_1, after0_2, after0_3, after0_4, after0_5, after0_6, after0_7, after0_8, after0_9, after0_10, after0_11, after0_12, after0_13, after0_14, after0_15]
  rw [show (dat0 V c).Φ t.succ = PhiS V c (t.val + 1) t.isLt from rfl, PhiS_succ]
  have hN : t.val < 8 := lt_of_lt_of_eq t.isLt (show cfg0.N = 8 from N_0)
  by_cases h0 : t.val % 8 = 0
  · by_cases hz : t.val = 0
    · rw [PhiS_castSucc V c t, PhiS_zero V c _ _ hz, PhiA0_eq]
      rw [outsAt0_A V c t h0]
      unfold out0_A_15 sout0_A_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((kernelRun0_A c (grid0.coords t) _ _ _ _ _ _ _ _ _ _ _ _ _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [HS0]; · iexact HS0
      iintro ⟨H0, H1, H2, H3, H4, H5, H6, H7, H8, H9, H10, H11, H12, H13, H14, ⟨%e15, H15⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      unfold owns; iexists _; isplitr
      swap; · iexact H15
      ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _)
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc V c t, PhiS_pos V c _ _ hz]
      rw [outsAt0_B V c t h0]
      unfold out0_B_15 sout0_B_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((kernelRun0_B c (grid0.coords t) _ _ _ _ _ _ _ _ _ _ _ _ _ _ _ _ _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [HS0]; · iexact HS0
      iintro ⟨H0, H1, H2, H3, H4, H5, H6, H7, H8, H9, H10, H11, H12, H13, H14, ⟨%e15, H15⟩, HS0⟩
      isplitl [HS0 HR Hg]
      · isplitl [HS0 HR]
        · isplitl [HS0]
          · iexact HS0
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      unfold owns; iexists _; isplitr
      swap; · iexact H15
      ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

/-- The body triple of the first call, at every grid point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 8 := N_0; omega)

end Cert.KernelIdeal.Run

end
-- ==== Proof.KernelIdealRegion1.lean ====
/- The second call: its body run on any buffers and at every grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.UnfoldOut

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (V : (c : Dev nD) → (b : Ref sig .tc) → Buf (Elt F) ((c : Thread nD τ).loc b))

/-- The block of window `w` of the second call at grid point `t`, read off the array the call is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S32x64x256 := Rect.unit (s := S32x64x256) ![0, 0, 0] S32x64x256.size inb_S32x64x256_S32x64x256_0_0_0
abbrev r1_1 : Rect S256x512 := Rect.unit (s := S256x512) ![0, 0] S256x512.size inb_S256x512_S256x512_0_0
abbrev r1_2 : Rect S4x128 := Rect.unit (s := S4x128) ![0, 0] S1x128.size inb_S4x128_S1x128_0_0
abbrev r1_3 : Rect S4x128 := Rect.unit (s := S4x128) ![1, 0] S1x128.size inb_S4x128_S1x128_1_0
abbrev r1_4 : Rect S4x128 := Rect.unit (s := S4x128) ![2, 0] S1x128.size inb_S4x128_S1x128_2_0
abbrev r1_5 : Rect S4x128 := Rect.unit (s := S4x128) ![3, 0] S1x128.size inb_S4x128_S1x128_3_0
abbrev r1_6 : Rect S1x512 := Rect.unit (s := S1x512) ![0, 0] S1x512.size inb_S1x512_S1x512_0_0
abbrev r1_7 : Rect S512x256 := Rect.unit (s := S512x256) ![0, 0] S512x256.size inb_S512x256_S512x256_0_0
abbrev r1_8 : Rect S1x256 := Rect.unit (s := S1x256) ![0, 0] S1x256.size inb_S1x256_S1x256_0_0
abbrev r1_9 : Rect S512x256 := Rect.unit (s := S512x256) ![0, 0] S256x256.size inb_S512x256_S256x256_0_0
abbrev r1_10 : Rect S512x256 := Rect.unit (s := S512x256) ![256, 0] S256x256.size inb_S512x256_S256x256_256_0

def k1_pay26 (x0 : Vec F S32x64x256 .f32) (x1 : Vec F S32x64x256 .f32) (x2 : Vec F S256x512 .f32) (x3 : Vec F S1x512 .f32) (x4 : Vec F S4x128 .f32) (x5 : Vec F S4x128 .f32) (x6 : Vec F S1x256 .f32) (x7 : Vec F S1x256 .f32) (x8 : Vec F S512x256 .f32) (x9 : Vec F S1x256 .f32) (x10 : Vec F S512x256 .f32) (x11 : Vec F S1x256 .f32) (x12 : Vec F S1x256 .f32) (x13 : Vec F S1x256 .f32) : FVec F S1x64x64 .f32 :=
  k1_pay2 (F := F) -- `v9`
def k1_pay27 (x0 : Vec F S32x64x256 .f32) (x1 : Vec F S32x64x256 .f32) (x2 : Vec F S256x512 .f32) (x3 : Vec F S1x512 .f32) (x4 : Vec F S4x128 .f32) (x5 : Vec F S4x128 .f32) (x6 : Vec F S1x256 .f32) (x7 : Vec F S1x256 .f32) (x8 : Vec F S512x256 .f32) (x9 : Vec F S1x256 .f32) (x10 : Vec F S512x256 .f32) (x11 : Vec F S1x256 .f32) (x12 : Vec F S1x256 .f32) (x13 : Vec F S1x256 .f32) : FVec F S2048x512 .f32 :=
  k1_pay3 (View.ld x0 r1_0) (View.ld x2 r1_1) -- `v13`
def k1_pay28 (x0 : Vec F S32x64x256 .f32) (x1 : Vec F S32x64x256 .f32) (x2 : Vec F S256x512 .f32) (x3 : Vec F S1x512 .f32) (x4 : Vec F S4x128 .f32) (x5 : Vec F S4x128 .f32) (x6 : Vec F S1x256 .f32) (x7 : Vec F S1x256 .f32) (x8 : Vec F S512x256 .f32) (x9 : Vec F S1x256 .f32) (x10 : Vec F S512x256 .f32) (x11 : Vec F S1x256 .f32) (x12 : Vec F S1x256 .f32) (x13 : Vec F S1x256 .f32) : FVec F S32x64x128 .f32 :=
  k1_pay8 (k1_pay6 (View.ld x0 r1_0) (View.ld x2 r1_1) (View.ld x4 r1_2) (View.ld x5 r1_2)) (k1_pay7 (View.ld x0 r1_0) (View.ld x2 r1_1) (View.ld x4 r1_2) (View.ld x5 r1_2)) (Scalar.ofBits .f32 0x3F800000#32) -- `v43`
def k1_pay29 (x0 : Vec F S32x64x256 .f32) (x1 : Vec F S32x64x256 .f32) (x2 : Vec F S256x512 .f32) (x3 : Vec F S1x512 .f32) (x4 : Vec F S4x128 .f32) (x5 : Vec F S4x128 .f32) (x6 : Vec F S1x256 .f32) (x7 : Vec F S1x256 .f32) (x8 : Vec F S512x256 .f32) (x9 : Vec F S1x256 .f32) (x10 : Vec F S512x256 .f32) (x11 : Vec F S1x256 .f32) (x12 : Vec F S1x256 .f32) (x13 : Vec F S1x256 .f32) : FVec F S32x64x128 .f32 :=
  k1_pay9 (k1_pay26 x0 x1 x2 x3 x4 x5 x6 x7 x8 x9 x10 x11 x12 x13) (k1_pay27 x0 x1 x2 x3 x4 x5 x6 x7 x8 x9 x10 x11 x12 x13) (View.ld x4 r1_3) (View.ld x5 r1_3) -- `v73`
def k1_pay30 (x0 : Vec F S32x64x256 .f32) (x1 : Vec F S32x64x256 .f32) (x2 : Vec F S256x512 .f32) (x3 : Vec F S1x512 .f32) (x4 : Vec F S4x128 .f32) (x5 : Vec F S4x128 .f32) (x6 : Vec F S1x256 .f32) (x7 : Vec F S1x256 .f32) (x8 : Vec F S512x256 .f32) (x9 : Vec F S1x256 .f32) (x10 : Vec F S512x256 .f32) (x11 : Vec F S1x256 .f32) (x12 : Vec F S1x256 .f32) (x13 : Vec F S1x256 .f32) : FVec F S32x64x128 .f32 :=
  k1_pay13 (k1_pay26 x0 x1 x2 x3 x4 x5 x6 x7 x8 x9 x10 x11 x12 x13) (k1_pay10 (k1_pay27 x0 x1 x2 x3 x4 x5 x6 x7 x8 x9 x10 x11 x12 x13)) (k1_pay11 (k1_pay27 x0 x1 x2 x3 x4 x5 x6 x7 x8 x9 x10 x11 x12 x13) (View.ld x4 r1_4)) (k1_pay12 (k1_pay27 x0 x1 x2 x3 x4 x5 x6 x7 x8 x9 x10 x11 x12 x13) (View.ld x5 r1_4)) -- `v103`
def k1_pay31 (x0 : Vec F S32x64x256 .f32) (x1 : Vec F S32x64x256 .f32) (x2 : Vec F S256x512 .f32) (x3 : Vec F S1x512 .f32) (x4 : Vec F S4x128 .f32) (x5 : Vec F S4x128 .f32) (x6 : Vec F S1x256 .f32) (x7 : Vec F S1x256 .f32) (x8 : Vec F S512x256 .f32) (x9 : Vec F S1x256 .f32) (x10 : Vec F S512x256 .f32) (x11 : Vec F S1x256 .f32) (x12 : Vec F S1x256 .f32) (x13 : Vec F S1x256 .f32) : FVec F S32x64x1 .f32 :=
  k1_pay16 (k1_pay26 x0 x1 x2 x3 x4 x5 x6 x7 x8 x9 x10 x11 x12 x13) (k1_pay27 x0 x1 x2 x3 x4 x5 x6 x7 x8 x9 x10 x11 x12 x13) (View.ld x4 r1_5) (View.ld x5 r1_5) -- `v128`
def k1_pay32 (x0 : Vec F S32x64x256 .f32) (x1 : Vec F S32x64x256 .f32) (x2 : Vec F S256x512 .f32) (x3 : Vec F S1x512 .f32) (x4 : Vec F S4x128 .f32) (x5 : Vec F S4x128 .f32) (x6 : Vec F S1x256 .f32) (x7 : Vec F S1x256 .f32) (x8 : Vec F S512x256 .f32) (x9 : Vec F S1x256 .f32) (x10 : Vec F S512x256 .f32) (x11 : Vec F S1x256 .f32) (x12 : Vec F S1x256 .f32) (x13 : Vec F S1x256 .f32) : FVec F S32x64x128 .f32 :=
  k1_pay17 (k1_pay26 x0 x1 x2 x3 x4 x5 x6 x7 x8 x9 x10 x11 x12 x13) (k1_pay27 x0 x1 x2 x3 x4 x5 x6 x7 x8 x9 x10 x11 x12 x13) (View.ld x4 r1_5) (View.ld x5 r1_5) -- `v129`
def k1_pay33 (x0 : Vec F S32x64x256 .f32) (x1 : Vec F S32x64x256 .f32) (x2 : Vec F S256x512 .f32) (x3 : Vec F S1x512 .f32) (x4 : Vec F S4x128 .f32) (x5 : Vec F S4x128 .f32) (x6 : Vec F S1x256 .f32) (x7 : Vec F S1x256 .f32) (x8 : Vec F S512x256 .f32) (x9 : Vec F S1x256 .f32) (x10 : Vec F S512x256 .f32) (x11 : Vec F S1x256 .f32) (x12 : Vec F S1x256 .f32) (x13 : Vec F S1x256 .f32) : FVec F S32x64x256 .f32 :=
  k1_pay18 (k1_pay28 x0 x1 x2 x3 x4 x5 x6 x7 x8 x9 x10 x11 x12 x13) (k1_pay29 x0 x1 x2 x3 x4 x5 x6 x7 x8 x9 x10 x11 x12 x13) (k1_pay30 x0 x1 x2 x3 x4 x5 x6 x7 x8 x9 x10 x11 x12 x13) (k1_pay31 x0 x1 x2 x3 x4 x5 x6 x7 x8 x9 x10 x11 x12 x13) (k1_pay32 x0 x1 x2 x3 x4 x5 x6 x7 x8 x9 x10 x11 x12 x13) (Scalar.ofBits .f32 0x3F800000#32) (View.ld x3 r1_6) (View.ld x8 r1_7) -- `v151`
def k1_pay34 (x0 : Vec F S32x64x256 .f32) (x1 : Vec F S32x64x256 .f32) (x2 : Vec F S256x512 .f32) (x3 : Vec F S1x512 .f32) (x4 : Vec F S4x128 .f32) (x5 : Vec F S4x128 .f32) (x6 : Vec F S1x256 .f32) (x7 : Vec F S1x256 .f32) (x8 : Vec F S512x256 .f32) (x9 : Vec F S1x256 .f32) (x10 : Vec F S512x256 .f32) (x11 : Vec F S1x256 .f32) (x12 : Vec F S1x256 .f32) (x13 : Vec F S1x256 .f32) : FVec F S32x64x64 .f32 :=
  k1_pay19 (k1_pay26 x0 x1 x2 x3 x4 x5 x6 x7 x8 x9 x10 x11 x12 x13) (k1_pay28 x0 x1 x2 x3 x4 x5 x6 x7 x8 x9 x10 x11 x12 x13) (k1_pay29 x0 x1 x2 x3 x4 x5 x6 x7 x8 x9 x10 x11 x12 x13) (k1_pay30 x0 x1 x2 x3 x4 x5 x6 x7 x8 x9 x10 x11 x12 x13) (k1_pay31 x0 x1 x2 x3 x4 x5 x6 x7 x8 x9 x10 x11 x12 x13) (k1_pay32 x0 x1 x2 x3 x4 x5 x6 x7 x8 x9 x10 x11 x12 x13) (Scalar.ofBits .f32 0x3F800000#32) (View.ld x3 r1_6) (View.ld x8 r1_7) (View.ld x6 r1_8) (View.ld x7 r1_8) -- `v172`
def k1_pay35 (x0 : Vec F S32x64x256 .f32) (x1 : Vec F S32x64x256 .f32) (x2 : Vec F S256x512 .f32) (x3 : Vec F S1x512 .f32) (x4 : Vec F S4x128 .f32) (x5 : Vec F S4x128 .f32) (x6 : Vec F S1x256 .f32) (x7 : Vec F S1x256 .f32) (x8 : Vec F S512x256 .f32) (x9 : Vec F S1x256 .f32) (x10 : Vec F S512x256 .f32) (x11 : Vec F S1x256 .f32) (x12 : Vec F S1x256 .f32) (x13 : Vec F S1x256 .f32) : FVec F S32x64 .f32 :=
  k1_pay20 (k1_pay26 x0 x1 x2 x3 x4 x5 x6 x7 x8 x9 x10 x11 x12 x13) (k1_pay28 x0 x1 x2 x3 x4 x5 x6 x7 x8 x9 x10 x11 x12 x13) (k1_pay29 x0 x1 x2 x3 x4 x5 x6 x7 x8 x9 x10 x11 x12 x13) (k1_pay30 x0 x1 x2 x3 x4 x5 x6 x7 x8 x9 x10 x11 x12 x13) (k1_pay31 x0 x1 x2 x3 x4 x5 x6 x7 x8 x9 x10 x11 x12 x13) (k1_pay32 x0 x1 x2 x3 x4 x5 x6 x7 x8 x9 x10 x11 x12 x13) (Scalar.ofBits .f32 0x3F800000#32) (View.ld x3 r1_6) (View.ld x8 r1_7) (View.ld x6 r1_8) (View.ld x7 r1_8) -- `v173`

/-- The output block the second call's body leaves, from its input blocks. -/
def out1_14 (x0 : Vec F S32x64x256 .f32) (x1 : Vec F S32x64x256 .f32) (x2 : Vec F S256x512 .f32) (x3 : Vec F S1x512 .f32) (x4 : Vec F S4x128 .f32) (x5 : Vec F S4x128 .f32) (x6 : Vec F S1x256 .f32) (x7 : Vec F S1x256 .f32) (x8 : Vec F S512x256 .f32) (x9 : Vec F S1x256 .f32) (x10 : Vec F S512x256 .f32) (x11 : Vec F S1x256 .f32) (x12 : Vec F S1x256 .f32) (x13 : Vec F S1x256 .f32) : Vec F S32x64x256 .f32 :=
  View.canon [⟨r1_0, k1_pay1 (k1_pay21 (k1_pay33 x0 x1 x2 x3 x4 x5 x6 x7 x8 x9 x10 x11 x12 x13) (k1_pay34 x0 x1 x2 x3 x4 x5 x6 x7 x8 x9 x10 x11 x12 x13) (k1_pay35 x0 x1 x2 x3 x4 x5 x6 x7 x8 x9 x10 x11 x12 x13) (View.ld x9 r1_8) (View.ld x1 r1_0) (View.ld x10 r1_9) (View.ld x10 r1_10) (View.ld x11 r1_8)) (k1_pay22 (View.ld x12 r1_8)) (k1_pay23 (View.ld x13 r1_8)) (k1_pay24 (k1_pay33 x0 x1 x2 x3 x4 x5 x6 x7 x8 x9 x10 x11 x12 x13) (k1_pay34 x0 x1 x2 x3 x4 x5 x6 x7 x8 x9 x10 x11 x12 x13) (k1_pay35 x0 x1 x2 x3 x4 x5 x6 x7 x8 x9 x10 x11 x12 x13) (View.ld x9 r1_8) (View.ld x1 r1_0) (View.ld x10 r1_9) (View.ld x10 r1_10) (View.ld x11 r1_8)) 0#32 (k1_pay25 (k1_pay33 x0 x1 x2 x3 x4 x5 x6 x7 x8 x9 x10 x11 x12 x13) (k1_pay34 x0 x1 x2 x3 x4 x5 x6 x7 x8 x9 x10 x11 x12 x13) (k1_pay35 x0 x1 x2 x3 x4 x5 x6 x7 x8 x9 x10 x11 x12 x13) (View.ld x9 r1_8) (View.ld x1 r1_0) (View.ld x10 r1_9) (View.ld x10 r1_10) (View.ld x11 r1_8))⟩]

theorem cover1_14 (p0 : Vec F S32x64x256 .f32) (y : S32x64x256.Idx) :
    ∃ pc ∈ ([⟨r1_0, p0⟩] : List (View.Piece (Elt F) S32x64x256 .f32)), y ∈ pc.1.set :=
  View.cover_of_tiled [⟨r1_0, p0⟩] S32x64x256.size (by rfl) y

set_option maxHeartbeats 1000000 in

/-- The second call's body, run on any buffers, leaves the inputs as they were and the output at `out1_14` of them. -/
theorem sound_kernel1 (c : Dev nD) (E : Set ℕ) (i : grid1.Coords) (arg1 : Memref sig .tc .vmem S32x64x256 .f32) (harg1 : arg1.IsWhole) (arg2 : Memref sig .tc .vmem S32x64x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S4x128 .f32) (harg5 : arg5.IsWhole) (arg6 : Memref sig .tc .vmem S4x128 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S512x256 .f32) (harg9 : arg9.IsWhole) (arg10 : Memref sig .tc .vmem S1x256 .f32) (harg10 : arg10.IsWhole) (arg11 : Memref sig .tc .vmem S512x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S32x64x256 .f32) (harg15 : arg15.IsWhole)
    (x0 : Vec F S32x64x256 .f32) (x1 : Vec F S32x64x256 .f32) (x2 : Vec F S256x512 .f32) (x3 : Vec F S1x512 .f32) (x4 : Vec F S4x128 .f32) (x5 : Vec F S4x128 .f32) (x6 : Vec F S1x256 .f32) (x7 : Vec F S1x256 .f32) (x8 : Vec F S512x256 .f32) (x9 : Vec F S1x256 .f32) (x10 : Vec F S512x256 .f32) (x11 : Vec F S1x256 .f32) (x12 : Vec F S1x256 .f32) (x13 : Vec F S1x256 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out1_14 x0 x1 x2 x3 x4 x5 x6 x7 x8 x9 x10 x11 x12 x13)) -∗ K ⟨⟩))
      ⊢ wp frame (wpE (defs₀ (F := F)) Variants.none c none) E (cc1__temporal_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__temporal_kernel_eq_skeleton]; unfold cc1__temporal_kernel_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  refine (View.read_writes_eq_canon _ _ _ (cover1_14 _)).trans ?_
  rfl

/-- The second call's windows: the arrays at entry, each input block left in place, the output block as `out1_14` says. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d

def bodyPre1 (c : Dev nD) (t : Fin cfg1.N) : sProp (MT nD τ sig Unit (Elt F) ℕ (UR sig nD τ) ℕ) :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d)))

def bodyPost1 (c : Dev nD) (t : Fin cfg1.N) : sProp (MT nD τ sig Unit (Elt F) ℕ (UR sig nD τ) ℕ) :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t))

/-- The second call's body at any grid point takes the buffers from what they hold before it to what they hold after it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel1 c Set.univ (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem defs₀_row1 (t : Fin cfg1.N) :
    defs₀ (F := F) .tc cfg1.body (cfg1.bodyArgs t (cfg1.slots t)) = bodyAt1 t := by
  unfold defs₀; rw [Defs.onTc_tc]

/-- The body triple of the second call, at every grid point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.KernelIdealRun.lean ====
/- The whole program run: two stretches of host operations and two calls, from the launch to the return. -/
module

public import proofs.«01_k».proof.Proof.KernelIdealRegion0
public import proofs.«01_k».proof.Proof.KernelIdealRegion1

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26]

theorem hostOps0_fresh : (hostOps0 : List (HloOp τ sig (Elt F))).Forall fun op => op.fresh = ∅ := by
  simp only [List.Forall]; repeat' constructor

abbrev hostOps0_W : List (Ref sig .tc) := [main_v0, main_v1, main_v2, main_v3, main_v4, main_v5, main_v6, main_v7, main_v8, main_v9]
theorem hostOps0_writes : (hostOps0 : List (HloOp τ sig (Elt F))).Forall fun op => op.writes ⊆ (hostOps0_W.map (Proc.devRef (τ := τ) .tc)).toFinset :=
  StableHlo.forall_writes_sub_of_map rfl

theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor

abbrev hostOps1_W : List (Ref sig .tc) := [main_v11, main_v12, main_v13, main_v14, main_v15]
theorem hostOps1_writes : (hostOps1 : List (HloOp τ sig (Elt F))).Forall fun op => op.writes ⊆ (hostOps1_W.map (Proc.devRef (τ := τ) .tc)).toFinset :=
  StableHlo.forall_writes_sub_of_map rfl

theorem hostOps1_args : ∀ a ∈ argRefs, a ∉ hostOps1_W := ListAll.forall_mem_of_all_decide (by decide +kernel)

/-- The buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

/-- The buffers after the first stretch of host operations. -/
abbrev W1 : Dev nD → Valuation τ sig (Elt F) := fun c => StableHlo.after hostOps0 (W0 m ρ c)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)

abbrev V1 : (c : Dev nD) → (b : Ref sig .tc) → Buf (Elt F) ((c : Thread nD τ).loc b) := fun c b => W1 m ρ c b

/-- The buffers after the first call. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩

theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers after the second stretch of host operations. -/
abbrev W3 : Dev nD → Valuation τ sig (Elt F) := fun c => StableHlo.after hostOps1 (W2 m ρ c)

theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)

abbrev V3 : (c : Dev nD) → (b : Ref sig .tc) → Buf (Elt F) ((c : Thread nD τ).loc b) := fun c b => W3 m ρ c b

/-- The buffers at the end. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩

theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)

abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)
theorem W4_main_arg9 (c : Dev nD) : W4 m ρ c (Proc.devRef .tc main_arg9) = m ((c : Thread nD τ).loc main_arg9) :=
  W4_args m ρ c main_arg9 (by decide)
theorem W4_main_arg10 (c : Dev nD) : W4 m ρ c (Proc.devRef .tc main_arg10) = m ((c : Thread nD τ).loc main_arg10) :=
  W4_args m ρ c main_arg10 (by decide)
theorem W4_main_arg11 (c : Dev nD) : W4 m ρ c (Proc.devRef .tc main_arg11) = m ((c : Thread nD τ).loc main_arg11) :=
  W4_args m ρ c main_arg11 (by decide)
theorem W4_main_arg12 (c : Dev nD) : W4 m ρ c (Proc.devRef .tc main_arg12) = m ((c : Thread nD τ).loc main_arg12) :=
  W4_args m ρ c main_arg12 (by decide)
theorem W4_main_arg13 (c : Dev nD) : W4 m ρ c (Proc.devRef .tc main_arg13) = m ((c : Thread nD τ).loc main_arg13) :=
  W4_args m ρ c main_arg13 (by decide)
theorem W4_main_arg14 (c : Dev nD) : W4 m ρ c (Proc.devRef .tc main_arg14) = m ((c : Thread nD τ).loc main_arg14) :=
  W4_args m ρ c main_arg14 (by decide)
theorem W4_main_arg15 (c : Dev nD) : W4 m ρ c (Proc.devRef .tc main_arg15) = m ((c : Thread nD τ).loc main_arg15) :=
  W4_args m ρ c main_arg15 (by decide)
theorem W4_main_arg16 (c : Dev nD) : W4 m ρ c (Proc.devRef .tc main_arg16) = m ((c : Thread nD τ).loc main_arg16) :=
  W4_args m ρ c main_arg16 (by decide)
theorem W4_main_arg17 (c : Dev nD) : W4 m ρ c (Proc.devRef .tc main_arg17) = m ((c : Thread nD τ).loc main_arg17) :=
  W4_args m ρ c main_arg17 (by decide)
theorem W4_main_arg18 (c : Dev nD) : W4 m ρ c (Proc.devRef .tc main_arg18) = m ((c : Thread nD τ).loc main_arg18) :=
  W4_args m ρ c main_arg18 (by decide)
theorem W4_main_arg19 (c : Dev nD) : W4 m ρ c (Proc.devRef .tc main_arg19) = m ((c : Thread nD τ).loc main_arg19) :=
  W4_args m ρ c main_arg19 (by decide)
theorem W4_main_arg20 (c : Dev nD) : W4 m ρ c (Proc.devRef .tc main_arg20) = m ((c : Thread nD τ).loc main_arg20) :=
  W4_args m ρ c main_arg20 (by decide)
theorem W4_main_arg21 (c : Dev nD) : W4 m ρ c (Proc.devRef .tc main_arg21) = m ((c : Thread nD τ).loc main_arg21) :=
  W4_args m ρ c main_arg21 (by decide)
theorem W4_main_arg22 (c : Dev nD) : W4 m ρ c (Proc.devRef .tc main_arg22) = m ((c : Thread nD τ).loc main_arg22) :=
  W4_args m ρ c main_arg22 (by decide)
theorem W4_main_arg23 (c : Dev nD) : W4 m ρ c (Proc.devRef .tc main_arg23) = m ((c : Thread nD τ).loc main_arg23) :=
  W4_args m ρ c main_arg23 (by decide)
theorem W4_main_arg24 (c : Dev nD) : W4 m ρ c (Proc.devRef .tc main_arg24) = m ((c : Thread nD τ).loc main_arg24) :=
  W4_args m ρ c main_arg24 (by decide)
theorem W4_main_arg25 (c : Dev nD) : W4 m ρ c (Proc.devRef .tc main_arg25) = m ((c : Thread nD τ).loc main_arg25) :=
  W4_args m ρ c main_arg25 (by decide)
theorem W4_main_arg26 (c : Dev nD) : W4 m ρ c (Proc.devRef .tc main_arg26) = m ((c : Thread nD τ).loc main_arg26) :=
  W4_args m ρ c main_arg26 (by decide)

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none

abbrev L : GSem nD τ sig → Finset Unit := fun _ => ∅
abbrev lv : GSem nD τ sig → Unit → ℕ := fun _ _ => 0

abbrev R (c : Dev nD) : sProp (MT nD τ sig Unit (Elt F) ℕ (UR sig nD τ) ℕ) := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp (MT nD τ sig Unit (Elt F) ℕ (UR sig nD τ) ℕ) := iprop(StableHlo.held (c : Thread nD τ) (Pipeline.ucRefs τ sig) (W4 m ρ c) ∗ ∃ r, prngReg c r)

set_option backward.isDefEq.respectTransparency.types false in

/-- The first call as a segment of the program, from the buffers `W1` to the buffers `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

/-- The second call as a segment of the program, from the buffers `W3` to the buffers `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The whole program as its four segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]

/-- The program is the run of its segments. -/
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in

/-- Every weakly fair execution terminates, every buffer of the host ends at `W4` and every semaphore counter at zero. -/
theorem run : θ_run defs (onTc (τ := τ) (main (F := F))) ⟨m, fun _ => 0, ρ⟩ (fun r => (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- Every weakly fair execution terminates, the arguments end as launched and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26))
      ∧ r.2.sem = fun _ => 0) :=
  (θ_run defs _ _).mono (fun s h => ⟨(fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c),
       (h.1 c _ (mem_uc main_arg5 (by decide))).trans (W4_main_arg5 m ρ c),
       (h.1 c _ (mem_uc main_arg6 (by decide))).trans (W4_main_arg6 m ρ c),
       (h.1 c _ (mem_uc main_arg7 (by decide))).trans (W4_main_arg7 m ρ c),
       (h.1 c _ (mem_uc main_arg8 (by decide))).trans (W4_main_arg8 m ρ c),
       (h.1 c _ (mem_uc main_arg9 (by decide))).trans (W4_main_arg9 m ρ c),
       (h.1 c _ (mem_uc main_arg10 (by decide))).trans (W4_main_arg10 m ρ c),
       (h.1 c _ (mem_uc main_arg11 (by decide))).trans (W4_main_arg11 m ρ c),
       (h.1 c _ (mem_uc main_arg12 (by decide))).trans (W4_main_arg12 m ρ c),
       (h.1 c _ (mem_uc main_arg13 (by decide))).trans (W4_main_arg13 m ρ c),
       (h.1 c _ (mem_uc main_arg14 (by decide))).trans (W4_main_arg14 m ρ c),
       (h.1 c _ (mem_uc main_arg15 (by decide))).trans (W4_main_arg15 m ρ c),
       (h.1 c _ (mem_uc main_arg16 (by decide))).trans (W4_main_arg16 m ρ c),
       (h.1 c _ (mem_uc main_arg17 (by decide))).trans (W4_main_arg17 m ρ c),
       (h.1 c _ (mem_uc main_arg18 (by decide))).trans (W4_main_arg18 m ρ c),
       (h.1 c _ (mem_uc main_arg19 (by decide))).trans (W4_main_arg19 m ρ c),
       (h.1 c _ (mem_uc main_arg20 (by decide))).trans (W4_main_arg20 m ρ c),
       (h.1 c _ (mem_uc main_arg21 (by decide))).trans (W4_main_arg21 m ρ c),
       (h.1 c _ (mem_uc main_arg22 (by decide))).trans (W4_main_arg22 m ρ c),
       (h.1 c _ (mem_uc main_arg23 (by decide))).trans (W4_main_arg23 m ρ c),
       (h.1 c _ (mem_uc main_arg24 (by decide))).trans (W4_main_arg24 m ρ c),
       (h.1 c _ (mem_uc main_arg25 (by decide))).trans (W4_main_arg25 m ρ c),
       (h.1 c _ (mem_uc main_arg26 (by decide))).trans (W4_main_arg26 m ρ c)⟩), h.2⟩) (run m ρ)

end Cert.KernelIdeal.Run

end
-- ==== Proof.Consts.lean ====
/- The float constants the two programs spell, as the extended reals their patterns denote. -/
module

public import Idealize.ShloMosaic.PureOps.Ideal

@[expose] public section

noncomputable section

namespace Cert.Consts

open Idealize.ShloMosaic

/-- The threshold the kernel compares a quarter of the squared chord with. -/
def T : ℝ := 8465106 / 2 ^ 39

/-- The tolerance of the precondition, in kilometres. -/
def tol : ℝ := 8796093 / 2 ^ 43

/-- The lower end of the reference's clip. -/
def lo : ℝ := 9223372 / 2 ^ 63

/-- The number added to a variance. -/
def eps : ℝ := 10995116 / 2 ^ 40

/-- The slope of the leaky relu. -/
def slope : ℝ := 13421773 / 2 ^ 26

/-- The radians of a degree. -/
def rad : ℝ := 9370165 / 2 ^ 29

/-- `128`. -/
theorem c128 : Ideal.ofBits .f32 0x43000000#32 = ((128 : ℝ) : EReal) := by
  simp [Ideal.ofBits, Ideal.ieee, -EReal.coe_mul]; norm_num

/-- `256`. -/
theorem c256 : Ideal.ofBits .f32 0x43800000#32 = ((256 : ℝ) : EReal) := by
  simp [Ideal.ofBits, Ideal.ieee, -EReal.coe_mul]; norm_num

/-- `1/4`. -/
theorem quarter : Ideal.ofBits .f32 0x3E800000#32 = ((1 / 4 : ℝ) : EReal) := by
  simp [Ideal.ofBits, Ideal.ieee, -EReal.coe_mul]; norm_num

/-- `2`. -/
theorem two : Ideal.ofBits .f32 0x40000000#32 = ((2 : ℝ) : EReal) := by
  simp [Ideal.ofBits, Ideal.ieee, -EReal.coe_mul]; norm_num

/-- `50`. -/
theorem c50 : Ideal.ofBits .f32 0x42480000#32 = ((50 : ℝ) : EReal) := by
  simp [Ideal.ofBits, Ideal.ieee, -EReal.coe_mul]; norm_num

/-- `12742`, the diameter of the earth in kilometres. -/
theorem diam : Ideal.ofBits .f32 0x46471800#32 = ((12742 : ℝ) : EReal) := by
  simp [Ideal.ofBits, Ideal.ieee, -EReal.coe_mul]; norm_num

/-- `-1/2`. -/
theorem neg_half : Ideal.ofBits .f32 0xBF000000#32 = ((-(1 / 2) : ℝ) : EReal) := by
  simp [Ideal.ofBits, Ideal.ieee, -EReal.coe_mul]; norm_num

/-- The kernel's threshold. -/
theorem threshold : Ideal.ofBits .f32 0x37812AD2#32 = ((T : ℝ) : EReal) := by
  simp [Ideal.ofBits, Ideal.ieee, T, -EReal.coe_mul]; norm_num

/-- The precondition's tolerance. -/
theorem c_tol : Ideal.ofBits .f32 0x358637BD#32 = ((tol : ℝ) : EReal) := by
  simp [Ideal.ofBits, Ideal.ieee, tol, -EReal.coe_mul]; norm_num

/-- The number added to a variance. -/
theorem c_eps : Ideal.ofBits .f32 0x3727C5AC#32 = ((eps : ℝ) : EReal) := by
  simp [Ideal.ofBits, Ideal.ieee, eps, -EReal.coe_mul]; norm_num

/-- The clip's lower end. -/
theorem c_lo : Ideal.ofBits .f32 0x2B8CBCCC#32 = ((lo : ℝ) : EReal) := by
  simp [Ideal.ofBits, Ideal.ieee, lo, -EReal.coe_mul]; norm_num

/-- The leaky relu's slope. -/
theorem c_slope : Ideal.ofBits .f32 0x3E4CCCCD#32 = ((slope : ℝ) : EReal) := by
  simp [Ideal.ofBits, Ideal.ieee, slope, -EReal.coe_mul]; norm_num

/-- The radians of a degree. -/
theorem c_rad : Ideal.ofBits .f32 0x3C8EFA35#32 = ((rad : ℝ) : EReal) := by
  simp [Ideal.ofBits, Ideal.ieee, rad, -EReal.coe_mul]; norm_num

/-- The reference's mask is minus infinity. -/
theorem c_bot : Ideal.ofBits .f32 0xFF800000#32 = (⊥ : EReal) := by
  simp [Ideal.ofBits, Ideal.ieee]

/-- Plus infinity, which the precondition compares with. -/
theorem c_top : Ideal.ofBits .f32 0x7F800000#32 = (⊤ : EReal) := by
  simp [Ideal.ofBits, Ideal.ieee]

end Cert.Consts

end
-- ==== Proof.Chord.lean ====
/- Real numbers: the chord of two points of the sphere, and the comparison of its length with the threshold. -/
module

public import proofs.«01_k».proof.Proof.Consts
public import Mathlib.Analysis.Complex.Trigonometric
public import Mathlib.Analysis.SpecialFunctions.Trigonometric.Arctan
public import Mathlib.Analysis.SpecialFunctions.Trigonometric.Inverse

@[expose] public section

noncomputable section

namespace Cert.Chord

open Cert.Consts

/-- The haversine of two points, as the reference writes it. -/
def hav (p q p' q' : ℝ) : ℝ :=
  Real.sin ((p - p') / 2) * Real.sin ((p - p') / 2)
    + Real.cos p * Real.cos p' * (Real.sin ((q - q') / 2) * Real.sin ((q - q') / 2))

/-- A quarter of the squared chord is the haversine. -/
theorem chord (p q p' q' : ℝ) :
    1 / 4 * ((Real.sin p - Real.sin p') * (Real.sin p - Real.sin p')
      + (Real.cos p * Real.cos q - Real.cos p' * Real.cos q') * (Real.cos p * Real.cos q - Real.cos p' * Real.cos q')
      + (Real.cos p * Real.sin q - Real.cos p' * Real.sin q') * (Real.cos p * Real.sin q - Real.cos p' * Real.sin q'))
      = hav p q p' q' := by
  have h (x : ℝ) : Real.sin (x / 2) * Real.sin (x / 2) = (1 - Real.cos x) / 2 := by
    have h1 : Real.cos x = 2 * Real.cos (x / 2) ^ 2 - 1 := by rw [← Real.cos_two_mul]; congr 1; ring
    have h2 := Real.sin_sq_add_cos_sq (x / 2)
    nlinarith
  unfold hav
  rw [h, h, Real.cos_sub, Real.cos_sub]
  have a := Real.sin_sq_add_cos_sq p
  have b := Real.sin_sq_add_cos_sq p'
  have c := Real.sin_sq_add_cos_sq q
  have d := Real.sin_sq_add_cos_sq q'
  have c' : Real.sin q ^ 2 = 1 - Real.cos q ^ 2 := by linarith
  have d' : Real.sin q' ^ 2 = 1 - Real.cos q' ^ 2 := by linarith
  have a' : Real.sin p ^ 2 = 1 - Real.cos p ^ 2 := by linarith
  have b' : Real.sin p' ^ 2 = 1 - Real.cos p' ^ 2 := by linarith
  ring_nf
  rw [a', b', c', d']
  ring

/-- The haversine is symmetric. -/
theorem hav_comm (p q p' q' : ℝ) : hav p q p' q' = hav p' q' p q := by
  unfold hav
  rw [show (p - p') / 2 = -((p' - p) / 2) by ring, show (q - q') / 2 = -((q' - q) / 2) by ring, Real.sin_neg, Real.sin_neg]
  ring

/-- The haversine of a point and itself is zero. -/
theorem hav_self (p q : ℝ) : hav p q p q = 0 := by simp [hav]

/-- The angle whose sine is the root of `r`, as the reference's quotient gives it. -/
def angle (r : ℝ) : ℝ :=
  if 0 < Real.sqrt (1 - r) then Real.arctan (Real.sqrt r / Real.sqrt (1 - r))
  else if Real.sqrt (1 - r) < 0 then
    (if 0 ≤ Real.sqrt r then Real.arctan (Real.sqrt r / Real.sqrt (1 - r)) + Real.pi
      else Real.arctan (Real.sqrt r / Real.sqrt (1 - r)) - Real.pi)
  else if 0 < Real.sqrt r then Real.pi / 2 else if Real.sqrt r < 0 then -(Real.pi / 2) else 0

/-- That angle is the inverse sine of the root. -/
theorem angle_eq {r : ℝ} (h0 : 0 < r) (h1 : r ≤ 1) : angle r = Real.arcsin (Real.sqrt r) := by
  unfold angle
  have hp : 0 < Real.sqrt r := Real.sqrt_pos.mpr h0
  rcases h1.lt_or_eq with h | h
  · have hq : 0 < Real.sqrt (1 - r) := Real.sqrt_pos.mpr (by linarith)
    rw [if_pos hq, Real.arcsin_eq_arctan, Real.sq_sqrt h0.le]
    refine ⟨by linarith, ?_⟩
    rw [Real.sqrt_lt' one_pos]; linarith
  · subst h
    simp

/-- The sine just below the threshold's angle. -/
theorem sin_lo : Real.sin ((50 - tol) / 12742) ^ 2 ≤ T := by
  have hx : |(50 - tol) / 12742| ≤ 1 := by unfold tol; rw [abs_le]; constructor <;> norm_num
  have hb := (abs_le.mp (Real.sin_bound hx)).2
  have h0 : 0 ≤ Real.sin ((50 - tol) / 12742) :=
    Real.sin_nonneg_of_nonneg_of_le_pi (by unfold tol; norm_num) (by unfold tol; linarith [Real.two_le_pi])
  rw [abs_of_nonneg (by unfold tol; norm_num)] at hb
  have hu : Real.sin ((50 - tol) / 12742)
      ≤ (50 - tol) / 12742 - ((50 - tol) / 12742) ^ 3 / 6 + ((50 - tol) / 12742) ^ 5 / 100 := by linarith
  refine (pow_le_pow_left₀ h0 hu 2).trans ?_
  unfold tol T; norm_num

/-- The sine just above the threshold's angle. -/
theorem sin_hi : T ≤ Real.sin ((50 + tol) / 12742) ^ 2 := by
  have hx : |(50 + tol) / 12742| ≤ 1 := by unfold tol; rw [abs_le]; constructor <;> norm_num
  have hb := (abs_le.mp (Real.sin_bound hx)).1
  rw [abs_of_nonneg (by unfold tol; norm_num)] at hb
  have hu : (50 + tol) / 12742 - ((50 + tol) / 12742) ^ 3 / 6 - ((50 + tol) / 12742) ^ 5 / 100
      ≤ Real.sin ((50 + tol) / 12742) := by linarith
  refine le_trans ?_ (pow_le_pow_left₀ (by unfold tol; norm_num) hu 2)
  unfold tol T; norm_num

/-- Away from the threshold, the distance is below 50 km exactly where the haversine is below the rounded constant. -/
theorem near_iff (h : ℝ) (ht : tol < |12742 * angle (min 1 (max lo h)) - 50|) :
    12742 * angle (min 1 (max lo h)) < 50 ↔ h < T := by
  set r := min 1 (max lo h) with hr
  have hlo : 0 < lo := by unfold lo; norm_num
  have hlo1 : lo ≤ 1 := by unfold lo; norm_num
  have hloT : lo < T := by unfold lo T; norm_num
  have hT1 : T < 1 := by unfold T; norm_num
  have h0 : 0 < r := lt_min one_pos (lt_max_of_lt_left hlo)
  have h1 : r ≤ 1 := min_le_left _ _
  have hrT : r < T ↔ h < T := by
    rw [hr, min_lt_iff, max_lt_iff]
    constructor
    · rintro (a | a)
      · linarith
      · exact a.2
    · intro a; exact Or.inr ⟨hloT, a⟩
  rw [← hrT]
  rw [angle_eq h0 h1] at ht ⊢
  have hs0 : 0 ≤ Real.sqrt r := Real.sqrt_nonneg r
  have hs1 : Real.sqrt r ≤ 1 := Real.sqrt_le_one.mpr h1
  have hmem : Real.sqrt r ∈ Set.Icc (-1 : ℝ) 1 := ⟨by linarith, hs1⟩
  have hpi := Real.two_le_pi
  constructor
  · intro hd
    rw [abs_of_neg (by linarith)] at ht
    have : Real.arcsin (Real.sqrt r) < (50 - tol) / 12742 := by rw [lt_div_iff₀ (by norm_num)]; linarith
    rw [Real.arcsin_lt_iff_lt_sin hmem ⟨by unfold tol; norm_num; linarith, by unfold tol; norm_num; linarith⟩] at this
    have := pow_lt_pow_left₀ this hs0 two_ne_zero
    rw [Real.sq_sqrt h0.le] at this
    exact this.trans_le sin_lo
  · intro hd
    by_contra hc
    rw [abs_of_nonneg (by linarith)] at ht
    have : (50 + tol) / 12742 < Real.arcsin (Real.sqrt r) := by rw [div_lt_iff₀ (by norm_num)]; linarith
    rw [Real.lt_arcsin_iff_sin_lt ⟨by unfold tol; norm_num; linarith, by unfold tol; norm_num; linarith⟩ hmem] at this
    have h5 : 0 ≤ Real.sin ((50 + tol) / 12742) :=
      Real.sin_nonneg_of_nonneg_of_le_pi (by unfold tol; norm_num) (by unfold tol; norm_num; linarith)
    have := pow_lt_pow_left₀ this h5 two_ne_zero
    rw [Real.sq_sqrt h0.le] at this
    linarith [sin_hi]

end Cert.Chord

end
-- ==== Proof.Scal.lean ====
/- Extended reals: the scalar and one-row equations between what the kernel and the reference compute. -/
module

public import proofs.«01_k».proof.Proof.Consts
public import Idealize.ShloMosaic.Lib.Pointwise

@[expose] public section

noncomputable section

namespace Cert.Scal

open Idealize.ShloMosaic Cert.Consts

/-- The extended real is a real number. -/
def Rl (x : EReal) : Prop := ∃ r : ℝ, x = (r : EReal)

theorem Rl.coe (r : ℝ) : Rl (r : EReal) := ⟨r, rfl⟩

theorem Rl.zero : Rl 0 := ⟨0, rfl⟩

theorem Rl.one : Rl 1 := ⟨1, rfl⟩

theorem Rl.add {x y : EReal} (hx : Rl x) (hy : Rl y) : Rl (x + y) := by
  obtain ⟨a, rfl⟩ := hx; obtain ⟨b, rfl⟩ := hy; exact ⟨a + b, (EReal.coe_add a b).symm⟩

theorem Rl.sub {x y : EReal} (hx : Rl x) (hy : Rl y) : Rl (x - y) := by
  obtain ⟨a, rfl⟩ := hx; obtain ⟨b, rfl⟩ := hy; exact ⟨a - b, (EReal.coe_sub a b).symm⟩

theorem Rl.mul {x y : EReal} (hx : Rl x) (hy : Rl y) : Rl (x * y) := by
  obtain ⟨a, rfl⟩ := hx; obtain ⟨b, rfl⟩ := hy; exact ⟨a * b, (EReal.coe_mul a b).symm⟩

theorem Rl.max {x y : EReal} (hx : Rl x) (hy : Rl y) : Rl (max x y) := by
  rcases max_choice x y with h | h <;> rw [h] <;> assumption

theorem Rl.sum {n : ℕ} {f : Fin n → EReal} (h : ∀ i, Rl (f i)) : Rl (∑ i, f i) := by
  choose g hg using h
  refine ⟨∑ i, g i, ?_⟩
  rw [Finset.sum_congr rfl fun i _ => hg i]
  exact (map_sum (⟨⟨fun r : ℝ => (r : EReal), rfl⟩, EReal.coe_add⟩ : ℝ →+ EReal) g Finset.univ).symm

/-- A sum of reals, each taken as an extended real, is the real sum. -/
theorem coe_sum {n : ℕ} (g : Fin n → ℝ) : ∑ i, (g i : EReal) = ((∑ i, g i : ℝ) : EReal) :=
  (map_sum (⟨⟨fun r : ℝ => (r : EReal), rfl⟩, EReal.coe_add⟩ : ℝ →+ EReal) g Finset.univ).symm

theorem div_coe' (x : EReal) {r : ℝ} (h : r ≠ 0) : Ideal.div x (r : EReal) = x * ((r⁻¹ : ℝ) : EReal) := by
  rw [Ideal.div, if_neg (by exact_mod_cast h), EReal.coe_inv]

theorem Rl.div {x : EReal} (hx : Rl x) {r : ℝ} (h : r ≠ 0) : Rl (Ideal.div x (r : EReal)) := by
  rw [div_coe' x h]; exact hx.mul (Rl.coe _)

theorem Rl.exp {x : EReal} (hx : Rl x) : Rl (Ideal.exp x) := by
  obtain ⟨a, rfl⟩ := hx; exact ⟨Real.exp a, rfl⟩

/-- A finite extended real is a real number. -/
theorem Rl.of_ne {x : EReal} (h : x ≠ ⊥) (h' : x ≠ ⊤) : Rl x := ⟨x.toReal, (EReal.coe_toReal h' h).symm⟩

/-! ### Layer norm -/

/-- A square is not negative. -/
theorem sq_nonneg' (x : EReal) : 0 ≤ x * x := by
  rcases le_total 0 x with h | h
  · exact mul_nonneg h h
  · have : 0 ≤ -x := by simpa using EReal.neg_le_neg_iff.mpr h
    have := mul_nonneg this this
    rwa [EReal.neg_mul, mul_comm, EReal.neg_mul, neg_neg] at this

/-- Multiplying by the reciprocal root is dividing by the root, for a number that is positive. -/
theorem mul_rsqrt (x : EReal) {v : EReal} (hv : 0 < v) : x * Ideal.rsqrt v = Ideal.div x (Ideal.sqrt v) := by
  induction v with
  | bot => simp at hv
  | top =>
    rw [show Ideal.rsqrt ⊤ = 0 from rfl, show Ideal.sqrt ⊤ = ⊤ from rfl, Ideal.div, if_neg EReal.top_ne_zero, EReal.inv_top]
  | coe r =>
    have hr : 0 < r := by exact_mod_cast hv
    have hs : Real.sqrt r ≠ 0 := (Real.sqrt_pos.mpr hr).ne'
    rw [show Ideal.sqrt (r : EReal) = ((Real.sqrt r : ℝ) : EReal) from if_neg hr.not_gt, div_coe' x hs]
    rw [show Ideal.rsqrt (r : EReal) = (((Real.sqrt r)⁻¹ : ℝ) : EReal) from
      (if_neg hr.not_gt).trans (if_neg hr.ne')]

/-- The reciprocal root of a positive real is a real. -/
theorem Rl.rsqrt {v : EReal} (hv : Rl v) (h : 0 < v) : Rl (Ideal.rsqrt v) := by
  obtain ⟨r, rfl⟩ := hv
  have hr : 0 < r := by exact_mod_cast h
  exact ⟨(Real.sqrt r)⁻¹, (if_neg hr.not_gt).trans (if_neg hr.ne')⟩

/-- The mean of a row of `n` numbers. -/
def mean {n : ℕ} (r : ℝ) (x : Fin n → EReal) : EReal := Ideal.div (∑ k, x k) (r : EReal)

/-- The variance of a row, with the small constant added. -/
def vare {n : ℕ} (r : ℝ) (x : Fin n → EReal) : EReal :=
  Ideal.div (∑ k, (x k - mean r x) * (x k - mean r x)) (r : EReal) + (eps : EReal)

/-- The layer norm of a row of `n` numbers at one place. -/
def ln {n : ℕ} (r : ℝ) (x : Fin n → EReal) (g b : Fin n → EReal) (d : Fin n) : EReal :=
  (x d - mean r x) * Ideal.rsqrt (vare r x) * g d + b d

theorem vare_pos {n : ℕ} {r : ℝ} (hr : 0 < r) (x : Fin n → EReal) : 0 < vare r x := by
  unfold vare
  rw [div_coe' _ hr.ne']
  have h0 : (0 : EReal) ≤ (∑ k, (x k - mean r x) * (x k - mean r x)) * ((r⁻¹ : ℝ) : EReal) :=
    mul_nonneg (Finset.sum_nonneg fun k _ => sq_nonneg' _) (by exact_mod_cast (inv_pos.mpr hr).le)
  have he : (0 : EReal) < (eps : EReal) := by exact_mod_cast (by unfold eps; norm_num : (0 : ℝ) < eps)
  calc (0 : EReal) < (eps : EReal) := he
    _ = 0 + (eps : EReal) := (zero_add _).symm
    _ ≤ _ := by gcongr

/-- The layer norm with a division by the root, as the reference writes it. -/
theorem ln_div {n : ℕ} {r : ℝ} (hr : 0 < r) (x g b : Fin n → EReal) (d : Fin n) :
    Ideal.div (x d - mean r x) (Ideal.sqrt (vare r x)) * g d + b d = ln r x g b d := by
  unfold ln; rw [mul_rsqrt _ (vare_pos hr x)]

/-- The layer norm of a row of reals is real. -/
theorem Rl.ln {n : ℕ} {r : ℝ} (hr : 0 < r) {x g b : Fin n → EReal} (hx : ∀ k, Rl (x k)) (hg : ∀ k, Rl (g k))
    (hb : ∀ k, Rl (b k)) (d : Fin n) : Rl (ln r x g b d) := by
  have hm : Rl (mean r x) := (Rl.sum hx).div hr.ne'
  have hv : Rl (vare r x) :=
    ((Rl.sum fun k => ((hx k).sub hm).mul ((hx k).sub hm)).div hr.ne').add (Rl.coe _)
  exact ((((hx d).sub hm).mul (hv.rsqrt (vare_pos hr x))).mul (hg d)).add (hb d)

/-! ### Products -/

/-- Two products of matrices of reals are the same in either order. -/
theorem assoc {m n : ℕ} {a : Fin m → EReal} {h : Fin m → Fin n → EReal} {w : Fin n → EReal}
    (ha : ∀ i, Rl (a i)) (hh : ∀ i k, Rl (h i k)) (hw : ∀ k, Rl (w k)) :
    ∑ k, (∑ i, a i * h i k) * w k = ∑ i, a i * ∑ k, h i k * w k := by
  choose a' ha using ha
  choose h' hh using hh
  choose w' hw using hw
  simp only [ha, hh, hw, ← EReal.coe_mul, coe_sum]
  congr 1
  simp only [Finset.sum_mul, Finset.mul_sum]
  rw [Finset.sum_comm]
  exact Finset.sum_congr rfl fun i _ => Finset.sum_congr rfl fun k _ => mul_assoc _ _ _

/-! ### Attention -/

/-- The exponential of minus infinity is zero. -/
theorem exp_bot : Ideal.exp ⊥ = 0 := rfl

/-- The leaky relu of a real, as a maximum and as a choice. -/
theorem leaky {x : EReal} (hx : Rl x) :
    max x ((Consts.slope : EReal) * x) = if 0 ≤ x then x else (Consts.slope : EReal) * x := by
  obtain ⟨r, rfl⟩ := hx
  rw [← EReal.coe_mul]
  have h1 : Consts.slope < 1 := by unfold Consts.slope; norm_num
  have h0 : 0 < Consts.slope := by unfold Consts.slope; norm_num
  split_ifs with h
  · have h : 0 ≤ r := by exact_mod_cast h
    exact max_eq_left (by exact_mod_cast (by nlinarith : Consts.slope * r ≤ r))
  · have h : r < 0 := by exact_mod_cast not_le.mp h
    exact max_eq_right (by exact_mod_cast (by nlinarith : r ≤ Consts.slope * r))

/-- A row of scores, masked: the exponentials over their sum, with the largest score taken off first, summed against
    values, is the sum of exponentials against values, divided once. -/
theorem softmax {n d : ℕ} {e : Fin n → EReal} {M : EReal} {h : Fin n → Fin d → EReal} {B : Fin n → Prop} [DecidablePred B]
    (he : ∀ j, Rl (e j)) (hM : Rl M) (hh : ∀ j k, Rl (h j k)) (hB : ∃ j, B j) (k : Fin d) :
    ∑ j, Ideal.div (Ideal.exp ((if B j then e j else ⊥) - M)) (∑ j, Ideal.exp ((if B j then e j else ⊥) - M)) * h j k
      = (∑ j, Ideal.exp (e j + (if B j then 0 else ⊥)) * h j k)
        * Ideal.div 1 (∑ j, Ideal.exp (e j + (if B j then 0 else ⊥))) := by
  choose e' he using he
  obtain ⟨M', rfl⟩ := hM
  choose h' hh using hh
  obtain ⟨j0, hj0⟩ := hB
  have e1 (j : Fin n) : Ideal.exp ((if B j then e j else ⊥) - (M' : EReal))
      = (((if B j then Real.exp (e' j) else 0) * Real.exp (-M') : ℝ) : EReal) := by
    by_cases hb : B j
    · rw [if_pos hb, if_pos hb, he, ← EReal.coe_sub, ← Real.exp_add]; rfl
    · rw [if_neg hb, if_neg hb, zero_mul]; simp [exp_bot]
  have e2 (j : Fin n) : Ideal.exp (e j + (if B j then 0 else ⊥))
      = (((if B j then Real.exp (e' j) else 0) : ℝ) : EReal) := by
    by_cases hb : B j
    · rw [if_pos hb, if_pos hb, he, add_zero]; rfl
    · rw [if_neg hb, if_neg hb]; simp [exp_bot]
  simp only [e1, e2, hh, coe_sum]
  set p : Fin n → ℝ := fun j => if B j then Real.exp (e' j) else 0 with hp
  have hs : 0 < ∑ j, p j :=
    Finset.sum_pos' (fun j _ => by simp only [hp]; split_ifs; exacts [(Real.exp_pos _).le, le_refl _])
      ⟨j0, Finset.mem_univ _, by simp only [hp, if_pos hj0]; exact Real.exp_pos _⟩
  have hm : Real.exp (-M') ≠ 0 := (Real.exp_pos _).ne'
  change ∑ j, Ideal.div (((p j * Real.exp (-M') : ℝ)) : EReal) ((∑ j, p j * Real.exp (-M') : ℝ) : EReal) * (h' j k : EReal)
    = (∑ j, (p j : EReal) * (h' j k : EReal)) * Ideal.div 1 ((∑ j, p j : ℝ) : EReal)
  have hs' : ∑ j, p j * Real.exp (-M') ≠ 0 := by
    rw [← Finset.sum_mul]; exact mul_ne_zero hs.ne' hm
  rw [div_coe' 1 hs.ne']
  simp only [div_coe' _ hs', ← EReal.coe_mul, coe_sum, one_mul]
  congr 1
  rw [Finset.sum_mul]
  refine Finset.sum_congr rfl fun j _ => ?_
  rw [← Finset.sum_mul]
  field_simp

/-- The sum of exponentials of masked reals is a positive real. -/
theorem den_pos {n : ℕ} {e : Fin n → EReal} {B : Fin n → Prop} [DecidablePred B] (he : ∀ j, Rl (e j)) (hB : ∃ j, B j) :
    ∃ s : ℝ, s ≠ 0 ∧ ∑ j, Ideal.exp (e j + (if B j then 0 else ⊥)) = (s : EReal) := by
  choose e' he using he
  obtain ⟨j0, hj0⟩ := hB
  have e2 (j : Fin n) : Ideal.exp (e j + (if B j then 0 else ⊥))
      = (((if B j then Real.exp (e' j) else 0) : ℝ) : EReal) := by
    by_cases hb : B j
    · rw [if_pos hb, if_pos hb, he, add_zero]; rfl
    · rw [if_neg hb, if_neg hb]; simp [exp_bot]
  simp only [e2, coe_sum]
  refine ⟨_, (Finset.sum_pos' (fun j _ => ?_) ⟨j0, Finset.mem_univ _, ?_⟩).ne', rfl⟩
  · split_ifs; exacts [(Real.exp_pos _).le, le_refl _]
  · rw [if_pos hj0]; exact Real.exp_pos _

/-- The exponential of a masked real is a real. -/
theorem Rl.exp_mask {x : EReal} (hx : Rl x) (B : Prop) [Decidable B] : Rl (Ideal.exp (x + (if B then 0 else ⊥))) := by
  obtain ⟨r, rfl⟩ := hx
  split_ifs
  · rw [add_zero]; exact ⟨_, rfl⟩
  · exact ⟨0, by simp [exp_bot]⟩

/-- The two ways of writing the exponential linear unit agree. -/
theorem elu (x : EReal) :
    (if 0 < x then x else Ideal.exp (min x 0) - 1)
      = if 0 < x then x else Ideal.expm1 (if 0 < x then 0 else x) := by
  split_ifs with h
  · rfl
  · rw [min_eq_left (not_lt.mp h)]; rfl

end Cert.Scal

end
-- ==== Proof.Spec.lean ====
/- The function that the kernel and the reference compute, one definition for each stage, at an index. -/
module

public import proofs.«01_k».proof.Proof.Chord
public import proofs.«01_k».proof.Proof.Scal

@[expose] public section

noncomputable section

namespace Cert.Spec

open Idealize.ShloMosaic Cert.Consts Cert.Scal

/-- The arguments: the points' latitudes and longitudes as real numbers, the features, and the weights of the layers. -/
structure Inp where
  /-- the latitudes -/
  lat : Fin 512 → ℝ
  /-- the longitudes -/
  lon : Fin 512 → ℝ
  /-- the features of a point at a time -/
  x : Fin 512 → Fin 64 → Fin 256 → EReal
  /-- the first spatial layer -/
  W0 : Fin 256 → Fin 128 → EReal
  b0 : Fin 128 → EReal
  g0 : Fin 128 → EReal
  e0 : Fin 128 → EReal
  /-- the second spatial layer -/
  W1 : Fin 128 → Fin 128 → EReal
  b1 : Fin 128 → EReal
  g1 : Fin 128 → EReal
  e1 : Fin 128 → EReal
  /-- the third spatial layer -/
  W2 : Fin 128 → Fin 256 → EReal
  b2 : Fin 256 → EReal
  g2 : Fin 256 → EReal
  e2 : Fin 256 → EReal
  /-- the first temporal layer -/
  U0 : Fin 256 → Fin 512 → EReal
  c0 : Fin 512 → EReal
  s0 : Fin 4 → Fin 128 → EReal
  d0 : Fin 4 → Fin 128 → EReal
  /-- the second temporal layer -/
  U1 : Fin 512 → Fin 256 → EReal
  c1 : Fin 256 → EReal
  s1 : Fin 256 → EReal
  d1 : Fin 256 → EReal
  /-- the last layer -/
  Wf : Fin 512 → Fin 256 → EReal
  bf : Fin 256 → EReal
  gf : Fin 256 → EReal
  ef : Fin 256 → EReal

variable (I : Inp)

/-! ### The spatial graph -/

/-- The adjacency: a point with itself, and with each point less than 50 km away. -/
def A (i j : Fin 512) : EReal :=
  if i = j then 1 else if Chord.hav (I.lat i) (I.lon i) (I.lat j) (I.lon j) < Consts.T then 1 else 0

/-- The number of a point's neighbours. -/
def deg (i : Fin 512) : EReal := ∑ j, A I i j

/-- The normalised adjacency. -/
def nA (i j : Fin 512) : EReal := Ideal.rsqrt (deg I i) * A I i j * Ideal.rsqrt (deg I j)

/-- A layer's product, before its norm: the neighbours' rows, each times the weights, and the bias. -/
def gcn {p q : ℕ} (a : Fin 512 → Fin 512 → EReal) (h : Fin 512 → Fin p → EReal) (W : Fin p → Fin q → EReal)
    (b : Fin q → EReal) (n : Fin 512) (k : Fin q) : EReal :=
  ∑ m, a n m * (∑ c, h m c * W c k) + b k

/-- The first layer before its norm, at a time and a point. -/
def G1 (t : Fin 64) : Fin 512 → Fin 128 → EReal := gcn (nA I) (fun m => I.x m t) I.W0 I.b0
/-- The first layer. -/
def H1 (t : Fin 64) (n : Fin 512) (d : Fin 128) : EReal := max (ln 128 (G1 I t n) I.g0 I.e0 d) 0
/-- The second layer before its norm. -/
def G2 (t : Fin 64) : Fin 512 → Fin 128 → EReal := gcn (nA I) (H1 I t) I.W1 I.b1
/-- The second layer. -/
def H2 (t : Fin 64) (n : Fin 512) (d : Fin 128) : EReal := max (ln 128 (G2 I t n) I.g1 I.e1 d) 0
/-- The third layer before its norm. -/
def G3 (t : Fin 64) : Fin 512 → Fin 256 → EReal := gcn (nA I) (H2 I t) I.W2 I.b2
/-- The spatial result, at a time and a point. -/
def sp (t : Fin 64) (n : Fin 512) (d : Fin 256) : EReal := ln 256 (G3 I t n) I.g2 I.e2 d

/-! ### The temporal graph -/

/-- Two times at most five steps apart. -/
def band (i j : Fin 64) : Prop := (i : ℕ) ≤ j + 5 ∧ (j : ℕ) ≤ i + 5

instance (i j : Fin 64) : Decidable (band i j) := by unfold band; infer_instance

/-- The score of a pair of times. -/
def score (src dst : Fin 64 → EReal) (i j : Fin 64) : EReal :=
  max (dst i + src j) ((Consts.slope : EReal) * (dst i + src j))

/-- Its exponential, zero outside the band. -/
def wgt (src dst : Fin 64 → EReal) (i j : Fin 64) : EReal :=
  Ideal.exp (score src dst i j + (if band i j then 0 else ⊥))

/-- The attention of one head. -/
def att {q : ℕ} (src dst : Fin 64 → EReal) (h : Fin 64 → Fin q → EReal) (i : Fin 64) (k : Fin q) : EReal :=
  (∑ j, wgt src dst i j * h j k) * Ideal.div 1 (∑ j, wgt src dst i j)

/-- The exponential linear unit. -/
def eluS (x : EReal) : EReal := if 0 < x then x else Ideal.exp (min x 0) - 1

/-- The projected features of a point at a time. -/
def h (n : Fin 512) (t : Fin 64) (e : Fin 512) : EReal := ∑ c, I.x n t c * I.U0 c e

/-- The same by head. -/
def hh (n : Fin 512) (k : Fin 4) (t : Fin 64) (d : Fin 128) : EReal := h I n t ⟨k * 128 + d, by omega⟩

/-- The first temporal layer of a head, before the bias. -/
def a1 (n : Fin 512) (k : Fin 4) : Fin 64 → Fin 128 → EReal :=
  att (fun t => ∑ d, hh I n k t d * I.s0 k d) (fun t => ∑ d, hh I n k t d * I.d0 k d) (hh I n k)

/-- The first temporal layer. -/
def o1 (n : Fin 512) (t : Fin 64) (e : Fin 512) : EReal :=
  eluS (a1 I n ⟨e / 128, by omega⟩ t ⟨e % 128, by omega⟩ + I.c0 e)

/-- The second layer's projection. -/
def h2 (n : Fin 512) (t : Fin 64) (d : Fin 256) : EReal := ∑ e, o1 I n t e * I.U1 e d

/-- The second temporal layer, before the bias. -/
def a2 (n : Fin 512) : Fin 64 → Fin 256 → EReal :=
  att (fun t => ∑ d, h2 I n t d * I.s1 d) (fun t => ∑ d, h2 I n t d * I.d1 d) (h2 I n)

/-- The temporal result. -/
def tp (n : Fin 512) (t : Fin 64) (d : Fin 256) : EReal := a2 I n t d + I.c1 d

/-! ### The join -/

/-- The last layer before its norm. -/
def fu (n : Fin 512) (t : Fin 64) (d : Fin 256) : EReal :=
  (∑ c : Fin 256, sp I t n c * I.Wf ⟨c, by omega⟩ d) + (∑ c : Fin 256, tp I n t c * I.Wf ⟨256 + c, by omega⟩ d) + I.bf d

/-- The gelu by its tanh formula. -/
def gelu (x : EReal) : EReal :=
  x * (Ideal.ofBits .f32 0x3F000000#32
    * (1 + Ideal.tanh (Ideal.ofBits .f32 0x3F4C422A#32 * (x + Ideal.ofBits .f32 0x3D372713#32 * (x * x * x)))))

/-- The result. -/
def out (n : Fin 512) (t : Fin 64) (d : Fin 256) : EReal := gelu (ln 256 (fu I n t) I.gf I.ef d)

end Cert.Spec

end
-- ==== Proof.Finite.lean ====
/- What the precondition gives: the arguments as real numbers, the intermediate values that are then real numbers, and the
   two equations that need it. -/
module

public import proofs.«01_k».proof.Proof.Spec

@[expose] public section

noncomputable section

namespace Cert.Spec

open Idealize.ShloMosaic Cert.Consts Cert.Scal

/-- The arguments that must be real numbers are, and no pair of points lies at the threshold. -/
structure Inp.Good (I : Inp) : Prop where
  tie : ∀ i j, tol < |12742 * Chord.angle (min 1 (max lo (Chord.hav (I.lat i) (I.lon i) (I.lat j) (I.lon j)))) - 50|
  x : ∀ n t c, Rl (I.x n t c)
  W0 : ∀ c k, Rl (I.W0 c k)
  b0 : ∀ k, Rl (I.b0 k)
  g0 : ∀ k, Rl (I.g0 k)
  e0 : ∀ k, Rl (I.e0 k)
  W1 : ∀ c k, Rl (I.W1 c k)
  b1 : ∀ k, Rl (I.b1 k)
  g1 : ∀ k, Rl (I.g1 k)
  e1 : ∀ k, Rl (I.e1 k)
  W2 : ∀ c k, Rl (I.W2 c k)
  U0 : ∀ c k, Rl (I.U0 c k)
  c0 : ∀ k, Rl (I.c0 k)
  s0 : ∀ k d, Rl (I.s0 k d)
  d0 : ∀ k d, Rl (I.d0 k d)
  U1 : ∀ c k, Rl (I.U1 c k)
  s1 : ∀ d, Rl (I.s1 d)
  d1 : ∀ d, Rl (I.d1 d)

variable {I : Inp}

theorem A_cases (i j : Fin 512) : A I i j = 0 ∨ A I i j = 1 := by
  unfold A
  split_ifs <;> simp

/-- A point's number of neighbours is a positive real number. -/
theorem deg_pos (i : Fin 512) : ∃ r : ℝ, 0 < r ∧ deg I i = (r : EReal) := by
  have h : ∀ j, ∃ r : ℝ, 0 ≤ r ∧ A I i j = (r : EReal) := fun j => by
    rcases A_cases (I := I) i j with h | h
    · exact ⟨0, le_rfl, by rw [h]; rfl⟩
    · exact ⟨1, zero_le_one, by rw [h]; rfl⟩
  choose f hf hA using h
  have h1 : f i = 1 := by
    have : A I i i = 1 := by simp [A]
    rw [hA i] at this
    exact_mod_cast this
  refine ⟨∑ j, f j, lt_of_lt_of_le (by rw [h1]; exact one_pos) (Finset.single_le_sum (fun j _ => hf j) (Finset.mem_univ i)), ?_⟩
  rw [deg, ← coe_sum]
  exact Finset.sum_congr rfl fun j _ => hA j

theorem nA_real (i j : Fin 512) : Rl (nA I i j) := by
  have hr : ∀ i, Rl (Ideal.rsqrt (deg I i)) := fun i => by
    obtain ⟨r, h0, h⟩ := deg_pos (I := I) i
    exact Rl.rsqrt ⟨r, h⟩ (by rw [h]; exact_mod_cast h0)
  have hA : Rl (A I i j) := by
    rcases A_cases (I := I) i j with h | h <;> rw [h]
    exacts [Rl.zero, Rl.one]
  exact ((hr i).mul hA).mul (hr j)

theorem gcn_real {p q : ℕ} {a : Fin 512 → Fin 512 → EReal} {h : Fin 512 → Fin p → EReal} {W : Fin p → Fin q → EReal} {b : Fin q → EReal}
    (ha : ∀ i j, Rl (a i j)) (hh : ∀ m c, Rl (h m c)) (hW : ∀ c k, Rl (W c k)) (hb : ∀ k, Rl (b k)) (n : Fin 512) (k : Fin q) :
    Rl (gcn a h W b n k) :=
  (Rl.sum fun m => (ha n m).mul (Rl.sum fun c => (hh m c).mul (hW c k))).add (hb k)

theorem H2_real (hI : I.Good) (t : Fin 64) (n : Fin 512) (k : Fin 128) : Rl (H2 I t n k) := by
  have h128 : (0 : ℝ) < 128 := by norm_num
  have h1 : ∀ n k, Rl (H1 I t n k) := fun n k =>
    (Rl.ln h128 (fun k => gcn_real (fun i j => nA_real i j) (fun m c => hI.x m t c) hI.W0 hI.b0 n k) hI.g0 hI.e0 k).max Rl.zero
  exact (Rl.ln h128 (fun k => gcn_real (fun i j => nA_real i j) h1 hI.W1 hI.b1 n k) hI.g1 hI.e1 k).max Rl.zero

/-- The third layer's two products in either order. -/
theorem G3_assoc (hI : I.Good) (t : Fin 64) (n : Fin 512) (k : Fin 256) :
    ∑ c, (∑ m, nA I n m * H2 I t m c) * I.W2 c k + I.b2 k = G3 I t n k := by
  rw [G3, gcn]
  congr 1
  exact assoc (fun m => nA_real n m) (fun m c => H2_real hI t m c) (fun c => hI.W2 c k)

/-! ### The temporal layers -/

theorem score_real {src dst : Fin 64 → EReal} (hs : ∀ t, Rl (src t)) (hd : ∀ t, Rl (dst t)) (i j : Fin 64) : Rl (score src dst i j) :=
  ((hd i).add (hs j)).max ((Rl.coe _).mul ((hd i).add (hs j)))

theorem band_self (i : Fin 64) : band i i := ⟨by omega, by omega⟩

theorem att_real {q : ℕ} {src dst : Fin 64 → EReal} {v : Fin 64 → Fin q → EReal} (hs : ∀ t, Rl (src t)) (hd : ∀ t, Rl (dst t))
    (hv : ∀ t k, Rl (v t k)) (i : Fin 64) (k : Fin q) : Rl (att src dst v i k) := by
  have hw : ∀ j, Rl (wgt src dst i j) := fun j => Rl.exp_mask (score_real hs hd i j) _
  obtain ⟨r, h0, hr⟩ := den_pos (fun j => score_real hs hd i j) ⟨i, band_self i⟩
  rw [att, show ∑ j, wgt src dst i j = (r : EReal) from hr]
  exact (Rl.sum fun j => (hw j).mul (hv j k)).mul (Rl.one.div h0)

theorem elu_real {x : EReal} (hx : Rl x) : Rl (eluS x) := by
  unfold eluS
  split_ifs
  · exact hx
  · refine (Rl.exp ?_).sub Rl.one
    obtain ⟨r, rfl⟩ := hx
    exact ⟨min r 0, by rw [EReal.coe_strictMono.monotone.map_min]; rfl⟩

theorem h_real (hI : I.Good) (n : Fin 512) (t : Fin 64) (e : Fin 512) : Rl (h I n t e) :=
  Rl.sum fun c => (hI.x n t c).mul (hI.U0 c e)

theorem o1_real (hI : I.Good) (n : Fin 512) (t : Fin 64) (e : Fin 512) : Rl (o1 I n t e) :=
  elu_real ((att_real (fun _ => Rl.sum fun d => (h_real hI ..).mul (hI.s0 _ d)) (fun _ => Rl.sum fun d => (h_real hI ..).mul (hI.d0 _ d))
    (fun _ _ => h_real hI ..) _ _).add (hI.c0 e))

theorem h2_real (hI : I.Good) (n : Fin 512) (t : Fin 64) (d : Fin 256) : Rl (h2 I n t d) :=
  Rl.sum fun e => (o1_real hI n t e).mul (hI.U1 e d)

end Cert.Spec

end
-- ==== Proof.KerSpatial.lean ====
/- The spatial call's body, read at an index: each stage of it is the stage of `Cert.Spec` of the same name. -/
module

public import proofs.«01_k».proof.Proof.Gen.KernelIdeal.Skeleton
public import proofs.«01_k».proof.Proof.Spec

@[expose] public section

set_option maxRecDepth 16384

noncomputable section

open Idealize.ShloMosaic Idealize.ShloMosaic.TcCoe Idealize.SL.Sem

namespace Cert.KernelIdeal.Spatial

open Cert.KernelIdeal Cert.KernelIdeal.Gen Cert.Consts Cert.Scal Cert.Spec

theorem A_comm (I : Inp) (i j : Fin 512) : A I i j = A I j i := by
  simp only [A, eq_comm (a := i) (b := j), Chord.hav_comm (I.lat i) (I.lon i)]

/-- The kernel's test that two points differ. -/
theorem differ (i j : Fin 512) : k0_pay3 (ix2 i j) = if i = j then 0#1 else 1#1 := by
  pointwise [k0_pay3]
  have key : ∀ i j : Fin 512, (i : ℕ) = j ∨ (BitVec.ofNat 32 (i : ℕ) ≠ BitVec.ofNat 32 (j : ℕ)) := by
    intro i j
    by_cases h : (i : ℕ) = j
    · exact Or.inl h
    · refine Or.inr fun h' => h ?_
      have := congrArg BitVec.toNat h'
      simp only [BitVec.toNat_ofNat] at this
      omega
  by_cases h : i = j
  · subst h
    simp [IntOp.cmpi]
  · have := (key i j).resolve_left (fun h' => h (Fin.ext h'))
    simp [IntOp.cmpi, h, bne_iff_ne.mpr this]

/-- The quarter of the squared chord that the kernel compares with the threshold. -/
theorem dist2 (I : Inp) (a b : Vec Ideal S512x1 .f32) (p q : Vec Ideal S1x512 .f32)
    (ha : ∀ i, a (ix2 i 0) * (rad : EReal) = (I.lat i : EReal)) (hb : ∀ i, b (ix2 i 0) * (rad : EReal) = (I.lon i : EReal))
    (hp : ∀ i, p (ix2 0 i) * (rad : EReal) = (I.lat i : EReal)) (hq : ∀ i, q (ix2 0 i) * (rad : EReal) = (I.lon i : EReal))
    (i j : Fin 512) :
    k0_pay2 a b p q (ix2 i j) = ((Chord.hav (I.lat i) (I.lon i) (I.lat j) (I.lon j) : ℝ) : EReal) := by
  pointwise [k0_pay2]
  have hs : ∀ r : ℝ, Ideal.sin (r : EReal) = ((Real.sin r : ℝ) : EReal) := fun _ => rfl
  have hc : ∀ r : ℝ, Ideal.cos (r : EReal) = ((Real.cos r : ℝ) : EReal) := fun _ => rfl
  simp only [c_rad, quarter, ha, hb, hp, hq, hs, hc, ← EReal.coe_mul, ← EReal.coe_sub, ← EReal.coe_add]
  exact congrArg _ (Chord.chord _ _ _ _)

/-- The normalised adjacency that the first grid point of a call leaves in the kept buffer. -/
theorem adj (I : Inp) (v189 : FVec Ideal S512x512 .f32)
    (hd : ∀ i j, v189 (ix2 i j) = ((Chord.hav (I.lat i) (I.lon i) (I.lat j) (I.lon j) : ℝ) : EReal)) (i j : Fin 512) :
    k0_pay5 v189 k0_pay3 k0_pay4 (ix2 i j) = nA I i j := by
  have key : ∀ i j : Fin 512, Scalar.select (if i = j then 0#1 else 1#1)
      (Scalar.select (IntOp.andi (BitVec.ofBool (decide (((Chord.hav (I.lat i) (I.lon i) (I.lat j) (I.lon j) : ℝ) : EReal) < (Consts.T : EReal))))
        (if i = j then 0#1 else 1#1)) (1 : EReal) 0) 1 = A I i j := by
    intro i j
    simp only [A, EReal.coe_lt_coe_iff]
    by_cases h : i = j
    · simp [h, Scalar.select]
    · by_cases h' : Chord.hav (I.lat i) (I.lon i) (I.lat j) (I.lon j) < Consts.T <;> simp [h, h', Scalar.select, IntOp.andi]
  pointwise [k0_pay5, k0_pay4]
  simp only [hd, differ, threshold, key, nA, deg]
  simp only [A_comm I _ j]

/-! ### The layers: `tb` is the block's times -/

variable (I : Inp) (tb : Fin 8 → Fin 64)

/-- The norm's divisor, less a zero, is positive. -/
theorem guard128 {s : Shape} (a b : FVec Ideal s .f32) (ix : s.Idx) : (if 0 < (128 : ℝ) then a else b) ix = a ix := by
  rw [if_pos (by norm_num)]

theorem sub_zero_int (x : EReal) : x - ((((0#32 : BitVec 32).toInt : ℝ)) : EReal) = x := by simp

theorem pos128 : (0 : EReal) < ((128 : ℝ) : EReal) := by exact_mod_cast (by norm_num : (0 : ℝ) < 128)
theorem pos256 : (0 : EReal) < ((256 : ℝ) : EReal) := by exact_mod_cast (by norm_num : (0 : ℝ) < 256)

/-- The first layer before its norm. -/
theorem layer1 (v3 : Vec Ideal S512x512 .bf16) (v4 : Vec Ideal S512x8x256 .f32) (v5 : Vec Ideal S256x128 .f32) (v9 : Vec Ideal S1x128 .f32)
    (ha : ∀ i j, v3 (ix2 i j) = nA I i j) (hx : ∀ m t c, v4 (ix3 m t c) = I.x m (tb t) c) (hW : ∀ c k, v5 (ix2 c k) = I.W0 c k)
    (hb : ∀ k, v9 (ix2 0 k) = I.b0 k) (n : Fin 512) (t : Fin 8) (k : Fin 128) :
    k0_pay6 v3 v4 v5 v9 (ix3 n t k) = G1 I (tb t) n k := by
  pointwise [k0_pay6]
  simp only [ha, hx, hW, hb, G1, gcn]

theorem mean1 (v3 : Vec Ideal S512x512 .bf16) (v4 : Vec Ideal S512x8x256 .f32) (v5 : Vec Ideal S256x128 .f32) (v9 : Vec Ideal S1x128 .f32)
    (h : ∀ n t k, k0_pay6 v3 v4 v5 v9 (ix3 n t k) = G1 I (tb t) n k) (n : Fin 512) (t : Fin 8) :
    k0_pay9 v3 v4 v5 v9 (ix3 n t 0) = mean 128 (G1 I (tb t) n) := by
  pointwise [k0_pay9]
  simp only [h, c128, mean]

theorem var1 (v3 : Vec Ideal S512x512 .bf16) (v4 : Vec Ideal S512x8x256 .f32) (v5 : Vec Ideal S256x128 .f32) (v9 : Vec Ideal S1x128 .f32)
    (h : ∀ n t k, k0_pay6 v3 v4 v5 v9 (ix3 n t k) = G1 I (tb t) n k) (n : Fin 512) (t : Fin 8) :
    k0_pay11 v3 v4 v5 v9 (ix2 n t)
      = ∑ k, (G1 I (tb t) n k - mean 128 (G1 I (tb t) n)) * (G1 I (tb t) n k - mean 128 (G1 I (tb t) n)) := by
  pointwise [k0_pay11]
  simp only [h, c128, mean]

/-- The second layer before its norm. -/
theorem layer2 (v3 : Vec Ideal S512x512 .bf16) (v13 : FVec Ideal S512x8x128 .f32) (v16 v19 : FVec Ideal S1x1x128 .f32)
    (v23 : FVec Ideal S512x8x1 .f32) (v33 : FVec Ideal S512x8 .f32) (v53 : Vec Ideal S128x128 .f32) (v57 : Vec Ideal S1x128 .f32)
    (ha : ∀ i j, v3 (ix2 i j) = nA I i j) (h : ∀ n t k, v13 (ix3 n t k) = G1 I (tb t) n k)
    (hm : ∀ n t, v23 (ix3 n t 0) = mean 128 (G1 I (tb t) n))
    (hv : ∀ n t, v33 (ix2 n t) = ∑ k, (G1 I (tb t) n k - mean 128 (G1 I (tb t) n)) * (G1 I (tb t) n k - mean 128 (G1 I (tb t) n)))
    (hg : ∀ k, v16 (ix3 0 0 k) = I.g0 k) (he : ∀ k, v19 (ix3 0 0 k) = I.e0 k)
    (hW : ∀ c k, v53 (ix2 c k) = I.W1 c k) (hb : ∀ k, v57 (ix2 0 k) = I.b1 k) (n : Fin 512) (t : Fin 8) (k : Fin 128) :
    k0_pay12 v3 v13 v16 v19 v23 (k0_pay10 (F := Ideal)) v33 v53 v57 (ix3 n t k) = G2 I (tb t) n k := by
  have e : k0_pay10 (F := Ideal) = ((128 : ℝ) : EReal) := by
    show Ideal.ofBits .f32 0x43000000#32 - ((((0#32 : BitVec 32).toInt : ℝ)) : EReal) = _
    rw [sub_zero_int, c128]
  rw [e]
  pointwise [k0_pay12]
  simp only [if_pos pos128]
  pointwise
  simp only [ha, h, hm, hv, hg, he, hW, hb, c_eps, G2, H1, gcn, ln, vare]

/-- The sum of a row of the second layer. -/
theorem sum2 (v3 : Vec Ideal S512x512 .bf16) (v13 : FVec Ideal S512x8x128 .f32) (v16 v19 : FVec Ideal S1x1x128 .f32)
    (v23 : FVec Ideal S512x8x1 .f32) (v32 : Ideal .f32) (v33 : FVec Ideal S512x8 .f32) (v53 : Vec Ideal S128x128 .f32) (v57 : Vec Ideal S1x128 .f32)
    (h : ∀ n t k, k0_pay12 v3 v13 v16 v19 v23 v32 v33 v53 v57 (ix3 n t k) = G2 I (tb t) n k) (n : Fin 512) (t : Fin 8) :
    k0_pay16 v3 v13 v16 v19 v23 v32 v33 v53 v57 (ix3 n t 0) = ∑ k, G2 I (tb t) n k := by
  pointwise [k0_pay16]
  simp only [h]

theorem mean2 (v3 : Vec Ideal S512x512 .bf16) (v13 : FVec Ideal S512x8x128 .f32) (v16 v19 : FVec Ideal S1x1x128 .f32)
    (v23 : FVec Ideal S512x8x1 .f32) (v32 : Ideal .f32) (v33 : FVec Ideal S512x8 .f32) (v53 : Vec Ideal S128x128 .f32) (v57 : Vec Ideal S1x128 .f32)
    (h : ∀ n t k, k0_pay12 v3 v13 v16 v19 v23 v32 v33 v53 v57 (ix3 n t k) = G2 I (tb t) n k) (n : Fin 512) (t : Fin 8) :
    k0_pay15 v3 v13 v16 v19 v23 v32 v33 v53 v57 (ix3 n t 0) = mean 128 (G2 I (tb t) n) := by
  pointwise [k0_pay15]
  simp only [h, c128, mean]

/-- The third layer before its norm. -/
theorem layer3 (v3 : Vec Ideal S512x512 .bf16) (v61 : FVec Ideal S512x8x128 .f32) (v64 v67 : FVec Ideal S1x1x128 .f32)
    (v71 v73 : FVec Ideal S512x8x1 .f32) (v103 : Vec Ideal S128x256 .f32) (v105 : Vec Ideal S1x256 .f32)
    (ha : ∀ i j, v3 (ix2 i j) = nA I i j) (h : ∀ n t k, v61 (ix3 n t k) = G2 I (tb t) n k)
    (hm : ∀ n t, v71 (ix3 n t 0) = mean 128 (G2 I (tb t) n)) (hs : ∀ n t, v73 (ix3 n t 0) = ∑ k, G2 I (tb t) n k)
    (hg : ∀ k, v64 (ix3 0 0 k) = I.g1 k) (he : ∀ k, v67 (ix3 0 0 k) = I.e1 k)
    (hW : ∀ c k, v103 (ix2 c k) = I.W2 c k) (hb : ∀ k, v105 (ix2 0 k) = I.b2 k) (n : Fin 512) (t : Fin 8) (k : Fin 256) :
    k0_pay18 v3 v61 v64 v67 v71 0#32 v73 (k0_pay17 (F := Ideal)) v103 v105 (ix3 n t k)
      = ∑ c, (∑ m, nA I n m * H2 I (tb t) m c) * I.W2 c k + I.b2 k := by
  pointwise [k0_pay18]
  simp only [sub_zero_int, c128, if_pos pos128]
  pointwise [k0_pay17]
  simp only [ha, h, hm, hs, hg, he, hW, hb, c_eps, c128, H2, ln, vare, mean]

/-- The sum of a row of the third layer. -/
theorem sum3 (G : Fin 512 → Fin 8 → Fin 256 → EReal)
    (v3 : Vec Ideal S512x512 .bf16) (v61 : FVec Ideal S512x8x128 .f32) (v64 v67 : FVec Ideal S1x1x128 .f32)
    (v71 v73 v74 : FVec Ideal S512x8x1 .f32) (v103 : Vec Ideal S128x256 .f32) (v105 : Vec Ideal S1x256 .f32)
    (h : ∀ n t k, k0_pay18 v3 v61 v64 v67 v71 0#32 v73 v74 v103 v105 (ix3 n t k) = G n t k) (n : Fin 512) (t : Fin 8) :
    k0_pay21 v3 v61 v64 v67 v71 0#32 v73 v74 v103 v105 (ix3 n t 0) = ∑ k, G n t k := by
  pointwise [k0_pay21]
  simp only [h]

/-- The result block. -/
theorem final (v109 : FVec Ideal S512x8x256 .f32) (v112 v115 : FVec Ideal S1x1x256 .f32) (v117 : FVec Ideal S512x8x1 .f32)
    (h : ∀ n t k, v109 (ix3 n t k) = G3 I (tb t) n k) (hs : ∀ n t, v117 (ix3 n t 0) = ∑ k, G3 I (tb t) n k)
    (hg : ∀ k, v112 (ix3 0 0 k) = I.g2 k) (he : ∀ k, v115 (ix3 0 0 k) = I.e2 k) (n : Fin 512) (t : Fin 8) (k : Fin 256) :
    k0_pay1 v109 v112 v115 v117 (ix3 n t k) = sp I (tb t) n k := by
  pointwise [k0_pay1]
  simp only [sub_zero_int, c256, if_pos pos256]
  pointwise
  simp only [h, hs, hg, he, c_eps, c256, sp, ln, vare, mean]

end Cert.KernelIdeal.Spatial

end
-- ==== Proof.KerSpatialBlock.lean ====
/- The spatial call's output block and the matrix that it keeps, from its input blocks. -/
module

public import proofs.«01_k».proof.Proof.Finite
public import proofs.«01_k».proof.Proof.KerSpatial
public import proofs.«01_k».proof.Proof.KernelIdealRegion0
public import Idealize.ShloMosaic.Lib.Pipeline.ValueKit

@[expose] public section

set_option maxRecDepth 16384

noncomputable section

open Idealize.ShloMosaic Idealize.ShloMosaic.TcCoe Idealize.SL.Sem

namespace Cert.KernelIdeal.Spatial

open Cert.KernelIdeal Cert.KernelIdeal.Gen Cert.KernelIdeal.Run Cert.Consts Cert.Scal Cert.Spec

/-- The output block, from the kept matrix and the input blocks. -/
def layers (v3 : Vec Ideal S512x512 .bf16) (x2 : Vec Ideal S512x8x256 .f32) (x3 : Vec Ideal S256x128 .f32) (x4 : Vec Ideal S1x128 .f32) (x5 : Vec Ideal S1x128 .f32) (x6 : Vec Ideal S1x128 .f32) (x7 : Vec Ideal S128x128 .f32) (x8 : Vec Ideal S1x128 .f32) (x9 : Vec Ideal S1x128 .f32) (x10 : Vec Ideal S1x128 .f32) (x11 : Vec Ideal S128x256 .f32) (x12 : Vec Ideal S1x256 .f32) (x13 : Vec Ideal S1x256 .f32) (x14 : Vec Ideal S1x256 .f32) : FVec Ideal S512x8x256 .f32 :=
  k0_pay1
    (k0_pay18 v3 (k0_pay12 v3 (k0_pay6 v3 x2 x3 x4) (k0_pay7 x5) (k0_pay8 x6) (k0_pay9 v3 x2 x3 x4) (k0_pay10 (F := Ideal)) (k0_pay11 v3 x2 x3 x4) x7 x8) (k0_pay13 x9) (k0_pay14 x10)
      (k0_pay15 v3 (k0_pay6 v3 x2 x3 x4) (k0_pay7 x5) (k0_pay8 x6) (k0_pay9 v3 x2 x3 x4) (k0_pay10 (F := Ideal)) (k0_pay11 v3 x2 x3 x4) x7 x8) 0#32
      (k0_pay16 v3 (k0_pay6 v3 x2 x3 x4) (k0_pay7 x5) (k0_pay8 x6) (k0_pay9 v3 x2 x3 x4) (k0_pay10 (F := Ideal)) (k0_pay11 v3 x2 x3 x4) x7 x8) (k0_pay17 (F := Ideal)) x11 x12)
    (k0_pay19 x13) (k0_pay20 x14)
    (k0_pay21 v3 (k0_pay12 v3 (k0_pay6 v3 x2 x3 x4) (k0_pay7 x5) (k0_pay8 x6) (k0_pay9 v3 x2 x3 x4) (k0_pay10 (F := Ideal)) (k0_pay11 v3 x2 x3 x4) x7 x8) (k0_pay13 x9) (k0_pay14 x10)
      (k0_pay15 v3 (k0_pay6 v3 x2 x3 x4) (k0_pay7 x5) (k0_pay8 x6) (k0_pay9 v3 x2 x3 x4) (k0_pay10 (F := Ideal)) (k0_pay11 v3 x2 x3 x4) x7 x8) 0#32
      (k0_pay16 v3 (k0_pay6 v3 x2 x3 x4) (k0_pay7 x5) (k0_pay8 x6) (k0_pay9 v3 x2 x3 x4) (k0_pay10 (F := Ideal)) (k0_pay11 v3 x2 x3 x4) x7 x8) (k0_pay17 (F := Ideal)) x11 x12)

/-- The kept matrix, from the blocks of the points' coordinates. -/
def matrix (x0 : Vec Ideal S512x2 .f32) (x1 : Vec Ideal S2x512 .f32) : FVec Ideal S512x512 .bf16 :=
  k0_pay5 (k0_pay2 (View.ld x0 (Rect.unit ![0, 0] S512x1.size inb_S512x2_S512x1_0_0)) (View.ld x0 (Rect.unit ![0, 1] S512x1.size inb_S512x2_S512x1_0_1))
    (View.ld x1 (Rect.unit ![0, 0] S1x512.size inb_S2x512_S1x512_0_0)) (View.ld x1 (Rect.unit ![1, 0] S1x512.size inb_S2x512_S1x512_1_0))) k0_pay3 k0_pay4

theorem kept_first (c : Dev nD) (i : grid0.Coords) (arg1 : Memref sig .tc .vmem S512x2 .f32) (harg1 : arg1.IsWhole) (arg2 : Memref sig .tc .vmem S2x512 .f32) (harg2 : arg2.IsWhole) (arg3 : Memref sig .tc .vmem S512x8x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S512x8x256 .f32) (harg16 : arg16.IsWhole) (arg17 : Memref sig .tc .vmem S512x512 .bf16) (harg17 : arg17.IsWhole) (hc0 : cond0_0 i)
     (x0 : Vec Ideal S512x2 .f32) (x1 : Vec Ideal S2x512 .f32) (x2 : Vec Ideal S512x8x256 .f32) (x3 : Vec Ideal S256x128 .f32) (x4 : Vec Ideal S1x128 .f32) (x5 : Vec Ideal S1x128 .f32) (x6 : Vec Ideal S1x128 .f32) (x7 : Vec Ideal S128x128 .f32) (x8 : Vec Ideal S1x128 .f32) (x9 : Vec Ideal S1x128 .f32) (x10 : Vec Ideal S1x128 .f32) (x11 : Vec Ideal S128x256 .f32) (x12 : Vec Ideal S1x256 .f32) (x13 : Vec Ideal S1x256 .f32) (x14 : Vec Ideal S1x256 .f32)  :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 = matrix x0 x1 := by
  frame_out
  rfl

theorem out_first (c : Dev nD) (i : grid0.Coords) (arg1 : Memref sig .tc .vmem S512x2 .f32) (harg1 : arg1.IsWhole) (arg2 : Memref sig .tc .vmem S2x512 .f32) (harg2 : arg2.IsWhole) (arg3 : Memref sig .tc .vmem S512x8x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S512x8x256 .f32) (harg16 : arg16.IsWhole) (arg17 : Memref sig .tc .vmem S512x512 .bf16) (harg17 : arg17.IsWhole) (hc0 : cond0_0 i)
     (x0 : Vec Ideal S512x2 .f32) (x1 : Vec Ideal S2x512 .f32) (x2 : Vec Ideal S512x8x256 .f32) (x3 : Vec Ideal S256x128 .f32) (x4 : Vec Ideal S1x128 .f32) (x5 : Vec Ideal S1x128 .f32) (x6 : Vec Ideal S1x128 .f32) (x7 : Vec Ideal S128x128 .f32) (x8 : Vec Ideal S1x128 .f32) (x9 : Vec Ideal S1x128 .f32) (x10 : Vec Ideal S1x128 .f32) (x11 : Vec Ideal S128x256 .f32) (x12 : Vec Ideal S1x256 .f32) (x13 : Vec Ideal S1x256 .f32) (x14 : Vec Ideal S1x256 .f32)  :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 = layers (matrix x0 x1) x2 x3 x4 x5 x6 x7 x8 x9 x10 x11 x12 x13 x14 := by
  frame_out
  rfl

theorem out_later (c : Dev nD) (i : grid0.Coords) (arg1 : Memref sig .tc .vmem S512x2 .f32) (harg1 : arg1.IsWhole) (arg2 : Memref sig .tc .vmem S2x512 .f32) (harg2 : arg2.IsWhole) (arg3 : Memref sig .tc .vmem S512x8x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S512x8x256 .f32) (harg16 : arg16.IsWhole) (arg17 : Memref sig .tc .vmem S512x512 .bf16) (harg17 : arg17.IsWhole) (hc0 : ¬cond0_0 i)
     (x0 : Vec Ideal S512x2 .f32) (x1 : Vec Ideal S2x512 .f32) (x2 : Vec Ideal S512x8x256 .f32) (x3 : Vec Ideal S256x128 .f32) (x4 : Vec Ideal S1x128 .f32) (x5 : Vec Ideal S1x128 .f32) (x6 : Vec Ideal S1x128 .f32) (x7 : Vec Ideal S128x128 .f32) (x8 : Vec Ideal S1x128 .f32) (x9 : Vec Ideal S1x128 .f32) (x10 : Vec Ideal S1x128 .f32) (x11 : Vec Ideal S128x256 .f32) (x12 : Vec Ideal S1x256 .f32) (x13 : Vec Ideal S1x256 .f32) (x14 : Vec Ideal S1x256 .f32) (xs0 : Vec Ideal S512x512 .bf16)  :
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xs0 = layers xs0 x2 x3 x4 x5 x6 x7 x8 x9 x10 x11 x12 x13 x14 := by
  frame_out
  rfl

variable (I : Inp) (tb : Fin 8 → Fin 64)

/-- The kept matrix is the normalised adjacency. -/
theorem matrix_at (x0 : Vec Ideal S512x2 .f32) (x1 : Vec Ideal S2x512 .f32)
    (h0 : ∀ i, x0 (ix2 i 0) * (rad : EReal) = (I.lat i : EReal)) (h1 : ∀ i, x0 (ix2 i 1) * (rad : EReal) = (I.lon i : EReal))
    (h2 : ∀ i, x1 (ix2 0 i) * (rad : EReal) = (I.lat i : EReal)) (h3 : ∀ i, x1 (ix2 1 i) * (rad : EReal) = (I.lon i : EReal))
    (i j : Fin 512) : matrix x0 x1 (ix2 i j) = nA I i j :=
  adj I _ (dist2 I _ _ _ _ (fun i => by pointwise; exact h0 i) (fun i => by pointwise; exact h1 i) (fun i => by pointwise; exact h2 i)
    (fun i => by pointwise; exact h3 i)) i j

/-- The input blocks of the spatial call hold the inputs: the features at the times `tb`, and the weights. -/
structure Blocks (x2 : Vec Ideal S512x8x256 .f32) (x3 : Vec Ideal S256x128 .f32) (x4 : Vec Ideal S1x128 .f32) (x5 : Vec Ideal S1x128 .f32) (x6 : Vec Ideal S1x128 .f32) (x7 : Vec Ideal S128x128 .f32) (x8 : Vec Ideal S1x128 .f32) (x9 : Vec Ideal S1x128 .f32) (x10 : Vec Ideal S1x128 .f32) (x11 : Vec Ideal S128x256 .f32) (x12 : Vec Ideal S1x256 .f32) (x13 : Vec Ideal S1x256 .f32) (x14 : Vec Ideal S1x256 .f32) : Prop where
  x : ∀ m t c, x2 (ix3 m t c) = I.x m (tb t) c
  W0 : ∀ c k, x3 (ix2 c k) = I.W0 c k
  b0 : ∀ k, x4 (ix2 0 k) = I.b0 k
  g0 : ∀ k, x5 (ix2 0 k) = I.g0 k
  e0 : ∀ k, x6 (ix2 0 k) = I.e0 k
  W1 : ∀ c k, x7 (ix2 c k) = I.W1 c k
  b1 : ∀ k, x8 (ix2 0 k) = I.b1 k
  g1 : ∀ k, x9 (ix2 0 k) = I.g1 k
  e1 : ∀ k, x10 (ix2 0 k) = I.e1 k
  W2 : ∀ c k, x11 (ix2 c k) = I.W2 c k
  b2 : ∀ k, x12 (ix2 0 k) = I.b2 k
  g2 : ∀ k, x13 (ix2 0 k) = I.g2 k
  e2 : ∀ k, x14 (ix2 0 k) = I.e2 k

/-- The output block is the spatial result at its times. -/
theorem block (hI : I.Good) {v3 : Vec Ideal S512x512 .bf16} {x2 : Vec Ideal S512x8x256 .f32} {x3 : Vec Ideal S256x128 .f32} {x4 : Vec Ideal S1x128 .f32} {x5 : Vec Ideal S1x128 .f32} {x6 : Vec Ideal S1x128 .f32} {x7 : Vec Ideal S128x128 .f32} {x8 : Vec Ideal S1x128 .f32} {x9 : Vec Ideal S1x128 .f32} {x10 : Vec Ideal S1x128 .f32} {x11 : Vec Ideal S128x256 .f32} {x12 : Vec Ideal S1x256 .f32} {x13 : Vec Ideal S1x256 .f32} {x14 : Vec Ideal S1x256 .f32} (ha : ∀ i j, v3 (ix2 i j) = nA I i j)
    (B : Blocks I tb x2 x3 x4 x5 x6 x7 x8 x9 x10 x11 x12 x13 x14) (n : Fin 512) (t : Fin 8) (k : Fin 256) :
    layers v3 x2 x3 x4 x5 x6 x7 x8 x9 x10 x11 x12 x13 x14 (ix3 n t k) = sp I (tb t) n k := by
  have h1 := layer1 I tb v3 x2 x3 x4 ha B.x B.W0 B.b0
  have m1 := mean1 I tb v3 x2 x3 x4 h1
  have s1 := var1 I tb v3 x2 x3 x4 h1
  have h2 := layer2 I tb v3 _ (k0_pay7 x5) (k0_pay8 x6) _ _ x7 x8 ha h1 m1 s1 (fun k => by pointwise [k0_pay7]; exact B.g0 k)
    (fun k => by pointwise [k0_pay8]; exact B.e0 k) B.W1 B.b1
  have m2 := mean2 I tb v3 _ _ _ _ _ _ x7 x8 h2
  have s2 := sum2 I tb v3 _ _ _ _ _ _ x7 x8 h2
  have h3 := layer3 I tb v3 _ (k0_pay13 x9) (k0_pay14 x10) _ _ x11 x12 ha h2 m2 s2 (fun k => by pointwise [k0_pay13]; exact B.g1 k)
    (fun k => by pointwise [k0_pay14]; exact B.e1 k) B.W2 B.b2
  have h3' := fun n t k => (h3 n t k).trans (G3_assoc hI (tb t) n k)
  have s3 := sum3 (fun n t k => G3 I (tb t) n k) v3 _ _ _ _ _ _ x11 x12 h3'
  exact final I tb _ (k0_pay19 x13) (k0_pay20 x14) _ h3' s3 (fun k => by pointwise [k0_pay19]; exact B.g2 k)
    (fun k => by pointwise [k0_pay20]; exact B.e2 k) n t k

end Cert.KernelIdeal.Spatial

end
-- ==== Proof.KerRegion0.lean ====
/- The array that the spatial call leaves: the spatial result. -/
module

public import proofs.«01_k».proof.Proof.KerSpatialBlock

@[expose] public section

set_option maxRecDepth 16384

noncomputable section

open Idealize.ShloMosaic Idealize.ShloMosaic.TcCoe Idealize.SL.Sem
open Idealize.ShloMosaic.Pipeline (Dat Cfg Window)

namespace Cert.KernelIdeal.Spatial

open Cert.KernelIdeal Cert.KernelIdeal.Gen Cert.KernelIdeal.Run Cert.Consts Cert.Scal Cert.Spec

theorem idx0 : ∀ t : Fin cfg0.N, win0_0.index t = ![0, 0] ∧ win0_1.index t = ![0, 0] ∧ win0_2.index t = ![0, t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, t.val, 0] ∧ t.val < 8 :=
  (by decide +kernel : ∀ t : Fin grid0.N, _)

/-- The times of a grid point's block. -/
def tb (t : Fin cfg0.N) (i : Fin 8) : Fin 64 := ⟨t.val * 8 + i, by have := (idx0 t).2.2.2.2.2.2.2.2.2.2.2.2.2.2.2.2; omega⟩

variable (V : (c : Dev nD) → (b : Ref sig .tc) → Buf (Elt Ideal) ((c : Thread nD τ).loc b)) (c : Dev nD) (I : Inp)

/-- The arrays that the spatial call reads hold the inputs. -/
structure Arrays : Prop where
  lat : ∀ i, HMul.hMul (α := EReal) (β := EReal) (γ := EReal) (V c main_arg1 (ix2 i 0)) (rad : EReal) = (I.lat i : EReal)
  lon : ∀ i, HMul.hMul (α := EReal) (β := EReal) (γ := EReal) (V c main_arg1 (ix2 i 1)) (rad : EReal) = (I.lon i : EReal)
  lat' : ∀ i, HMul.hMul (α := EReal) (β := EReal) (γ := EReal) (V c main_v0 (ix2 0 i)) (rad : EReal) = (I.lat i : EReal)
  lon' : ∀ i, HMul.hMul (α := EReal) (β := EReal) (γ := EReal) (V c main_v0 (ix2 1 i)) (rad : EReal) = (I.lon i : EReal)
  x : ∀ m t d, V c main_arg0 (ix3 m t d) = I.x m t d
  W0 : ∀ c' k, V c main_arg3 (ix2 c' k) = I.W0 c' k
  b0 : ∀ k, V c main_v1 (ix2 0 k) = I.b0 k
  g0 : ∀ k, V c main_v2 (ix2 0 k) = I.g0 k
  e0 : ∀ k, V c main_v3 (ix2 0 k) = I.e0 k
  W1 : ∀ c' k, V c main_arg7 (ix2 c' k) = I.W1 c' k
  b1 : ∀ k, V c main_v4 (ix2 0 k) = I.b1 k
  g1 : ∀ k, V c main_v5 (ix2 0 k) = I.g1 k
  e1 : ∀ k, V c main_v6 (ix2 0 k) = I.e1 k
  W2 : ∀ c' k, V c main_arg11 (ix2 c' k) = I.W2 c' k
  b2 : ∀ k, V c main_v7 (ix2 0 k) = I.b2 k
  g2 : ∀ k, V c main_v8 (ix2 0 k) = I.g2 k
  e2 : ∀ k, V c main_v9 (ix2 0 k) = I.e2 k

variable {V c I}

theorem blk0_2 (t : Fin cfg0.N) (m : Fin 512) (i : Fin 8) (d : Fin 256) : iblk0 V c 2 t (ix3 m i d) = V c main_arg0 (ix3 m (tb t i) d) := by
  unfold tb; blk_ext [iblk0, idx0 t]
theorem blk0_3 (t : Fin cfg0.N) (a k) : iblk0 V c 3 t (ix2 a k) = V c main_arg3 (ix2 a k) := by blk_ext [iblk0, idx0 t]
theorem blk0_4 (t : Fin cfg0.N) (a k) : iblk0 V c 4 t (ix2 a k) = V c main_v1 (ix2 a k) := by blk_ext [iblk0, idx0 t]
theorem blk0_5 (t : Fin cfg0.N) (a k) : iblk0 V c 5 t (ix2 a k) = V c main_v2 (ix2 a k) := by blk_ext [iblk0, idx0 t]
theorem blk0_6 (t : Fin cfg0.N) (a k) : iblk0 V c 6 t (ix2 a k) = V c main_v3 (ix2 a k) := by blk_ext [iblk0, idx0 t]
theorem blk0_7 (t : Fin cfg0.N) (a k) : iblk0 V c 7 t (ix2 a k) = V c main_arg7 (ix2 a k) := by blk_ext [iblk0, idx0 t]
theorem blk0_8 (t : Fin cfg0.N) (a k) : iblk0 V c 8 t (ix2 a k) = V c main_v4 (ix2 a k) := by blk_ext [iblk0, idx0 t]
theorem blk0_9 (t : Fin cfg0.N) (a k) : iblk0 V c 9 t (ix2 a k) = V c main_v5 (ix2 a k) := by blk_ext [iblk0, idx0 t]
theorem blk0_10 (t : Fin cfg0.N) (a k) : iblk0 V c 10 t (ix2 a k) = V c main_v6 (ix2 a k) := by blk_ext [iblk0, idx0 t]
theorem blk0_11 (t : Fin cfg0.N) (a k) : iblk0 V c 11 t (ix2 a k) = V c main_arg11 (ix2 a k) := by blk_ext [iblk0, idx0 t]
theorem blk0_12 (t : Fin cfg0.N) (a k) : iblk0 V c 12 t (ix2 a k) = V c main_v7 (ix2 a k) := by blk_ext [iblk0, idx0 t]
theorem blk0_13 (t : Fin cfg0.N) (a k) : iblk0 V c 13 t (ix2 a k) = V c main_v8 (ix2 a k) := by blk_ext [iblk0, idx0 t]
theorem blk0_14 (t : Fin cfg0.N) (a k) : iblk0 V c 14 t (ix2 a k) = V c main_v9 (ix2 a k) := by blk_ext [iblk0, idx0 t]

theorem blocks (R : Arrays V c I) (t : Fin cfg0.N) :
    Blocks I (tb t) (iblk0 V c 2 t) (iblk0 V c 3 t) (iblk0 V c 4 t) (iblk0 V c 5 t) (iblk0 V c 6 t) (iblk0 V c 7 t) (iblk0 V c 8 t)
      (iblk0 V c 9 t) (iblk0 V c 10 t) (iblk0 V c 11 t) (iblk0 V c 12 t) (iblk0 V c 13 t) (iblk0 V c 14 t) where
  x m i d := (blk0_2 t m i d).trans (R.x m (tb t i) d)
  W0 a k := (blk0_3 t a k).trans (R.W0 a k)
  b0 k := (blk0_4 t 0 k).trans (R.b0 k)
  g0 k := (blk0_5 t 0 k).trans (R.g0 k)
  e0 k := (blk0_6 t 0 k).trans (R.e0 k)
  W1 a k := (blk0_7 t a k).trans (R.W1 a k)
  b1 k := (blk0_8 t 0 k).trans (R.b1 k)
  g1 k := (blk0_9 t 0 k).trans (R.g1 k)
  e1 k := (blk0_10 t 0 k).trans (R.e1 k)
  W2 a k := (blk0_11 t a k).trans (R.W2 a k)
  b2 k := (blk0_12 t 0 k).trans (R.b2 k)
  g2 k := (blk0_13 t 0 k).trans (R.g2 k)
  e2 k := (blk0_14 t 0 k).trans (R.e2 k)

theorem first_matrix (R : Arrays V c I) (t : Fin cfg0.N) (i j : Fin 512) :
    matrix (iblk0 V c 0 t) (iblk0 V c 1 t) (ix2 i j) = nA I i j := by
  have e0 : ∀ i k, iblk0 V c 0 t (ix2 i k) = V c main_arg1 (ix2 i k) := fun i k => by blk_ext [iblk0, idx0 t]
  have e1 : ∀ i k, iblk0 V c 1 t (ix2 i k) = V c main_v0 (ix2 i k) := fun i k => by blk_ext [iblk0, idx0 t]
  exact matrix_at I _ _ (fun i => (congrArg (fun z : EReal => z * (rad : EReal)) (e0 i 0)).trans (R.lat i))
    (fun i => (congrArg (fun z : EReal => z * (rad : EReal)) (e0 i 1)).trans (R.lon i))
    (fun i => (congrArg (fun z : EReal => z * (rad : EReal)) (e1 0 i)).trans (R.lat' i))
    (fun i => (congrArg (fun z : EReal => z * (rad : EReal)) (e1 1 i)).trans (R.lon' i)) i j

/-- At each grid point the kept matrix is the normalised adjacency. -/
theorem kept (R : Arrays V c I) : ∀ (n : ℕ) (hn : n < cfg0.N) (i j : Fin 512), (outsAt0 V c n hn).2 (ix2 i j) = nA I i j := by
  intro n
  induction n with
  | zero =>
    intro hn i j
    have e := outsAt0_A V c ⟨0, hn⟩ (Nat.zero_mod _)
    rw [e, kept_first]
    exact first_matrix R ⟨0, hn⟩ i j
  | succ n ih =>
    intro hn i j
    by_cases h0 : (n + 1) % 8 = 0
    · have e := outsAt0_A V c ⟨n + 1, hn⟩ h0
      rw [e, kept_first]
      exact first_matrix R ⟨n + 1, hn⟩ i j
    · have e := outsAt0_B V c ⟨n + 1, hn⟩ h0
      rw [e]
      exact ih _ i j

/-- The block that a grid point leaves. -/
theorem point (R : Arrays V c I) (hI : I.Good) (t : Fin cfg0.N) (n : Fin 512) (i : Fin 8) (k : Fin 256) :
    (outsAt0 V c t.val t.isLt).1 (ix3 n i k) = sp I (tb t i) n k := by
  by_cases h0 : t.val % 8 = 0
  · rw [outsAt0_A V c t h0]
    dsimp only
    rw [out_first]
    exact block I (tb t) hI (first_matrix R t) (blocks R t) n i k
  · rw [outsAt0_B V c t h0]
    dsimp only
    rw [out_later]
    exact block I (tb t) hI (kept R _ _) (blocks R t) n i k

/-- The spatial call's array. -/
theorem array_at (R : Arrays V c I) (hI : I.Good) (n : Fin 512) (t : Fin 64) (k : Fin 256) :
    (dat0 V c).arrAt 15 cfg0.N (ix3 n t k) = sp I t n k := by
  refine congrFun ((dat0 V c).arrAt_eq_of_covers 15 (fun y : S512x64x256.Idx => sp I (y 1) (y 0) (y 2)) (by decide +kernel) fun t _ y => ?_)
    (ix3 n t k)
  blk_simp
  rw [after0_15]
  have e : (outsAt0 V c t.val t.isLt).1 y = sp I (tb t (y 1)) (y 0) (y 2) :=
    (congrArg (outsAt0 V c t.val t.isLt).1 (eq_ix3 y)).trans (point R hI t (y 0) (y 1) (y 2))
  have h : ∀ f : S512x64x256.Idx → EReal, f ((win0_15.blk t).view.emb y) = f (ix3 (y 0) (tb t (y 1)) (y 2)) := fun f => by
    unfold tb; blk_ext [idx0 t]
  exact e.trans (h (fun y => sp I (y 1) (y 0) (y 2))).symm

end Cert.KernelIdeal.Spatial

end
-- ==== Proof.KerTemporal.lean ====
/- The temporal call's body, read at an index: each stage of it is the stage of `Cert.Spec` of the same name. -/
module

public import proofs.«01_k».proof.Proof.Gen.KernelIdeal.Skeleton
public import proofs.«01_k».proof.Proof.Spec

@[expose] public section

set_option maxRecDepth 16384

noncomputable section

open Idealize.ShloMosaic Idealize.ShloMosaic.TcCoe Idealize.SL.Sem

namespace Cert.KernelIdeal.Temporal

open Cert.KernelIdeal Cert.KernelIdeal.Gen Cert.Consts Cert.Scal Cert.Spec

/-- The kernel's test of a pair of times is `band`. -/
theorem test_band : ∀ i j : Fin 64, IntOp.cmpi CmpIPredicate.sle (IntOp.absi (IntOp.subi (BitVec.ofNat 32 (i : ℕ)) (BitVec.ofNat 32 (j : ℕ)))) 5#32
    = if band i j then 1#1 else 0#1 := by
  decide +kernel

/-- The mask that the kernel adds to the scores. -/
theorem mask_at (i j : Fin 64) : k1_pay2 (F := Ideal) (ix3 0 i j) = if band i j then 0 else ⊥ := by
  pointwise [k1_pay2]
  rw [test_band]
  split_ifs
  · rfl
  · rfl

variable (I : Inp) (p : Fin 32 → Fin 512)

theorem hh_zero (n : Fin 512) (t : Fin 64) (d : Fin 128) : hh I n 0 t d = h I n t ⟨d, by omega⟩ := by
  unfold hh
  congr 2
  simp

theorem a1_congr (n : Fin 512) {k k' : Fin 4} (t : Fin 64) {d d' : Fin 128} (hk : (k : ℕ) = k') (hd : (d : ℕ) = d') :
    a1 I n k t d = a1 I n k' t d' := by
  obtain rfl := Fin.ext hk
  obtain rfl := Fin.ext hd
  rfl

/-- The first head, from the projected features. -/
theorem head0 (v10 : Vec Ideal S32x64x256 .f32) (v12 : Vec Ideal S256x512 .f32) (v16 v21 : Vec Ideal S1x128 .f32)
    (hp : ∀ (i : Fin 32) (t : Fin 64) (e : Fin 512), k1_pay3 v10 v12 (ix2 ⟨i * 64 + t, by omega⟩ e) = h I (p i) t e)
    (hs : ∀ d, v16 (ix2 0 d) = I.s0 0 d) (hd : ∀ d, v21 (ix2 0 d) = I.d0 0 d) (i : Fin 32) (t : Fin 64) (d : Fin 128) :
    k1_pay8 (k1_pay6 v10 v12 v16 v21) (k1_pay7 v10 v12 v16 v21) (Scalar.ofBits .f32 0x3F800000#32) (ix3 i t d) = a1 I (p i) 0 t d := by
  pointwise [k1_pay8, k1_pay7, k1_pay6, k1_pay5, k1_pay4]
  simp only [hp, hs, hd, mask_at, c_slope, a1, att, wgt, score, hh_zero]

/-- The second head. -/
theorem head1 (v13 : FVec Ideal S2048x512 .f32) (v46 v51 : Vec Ideal S1x128 .f32)
    (hp : ∀ (i : Fin 32) (t : Fin 64) (e : Fin 512), v13 (ix2 ⟨i * 64 + t, by omega⟩ e) = h I (p i) t e)
    (hs : ∀ d, v46 (ix2 0 d) = I.s0 1 d) (hd : ∀ d, v51 (ix2 0 d) = I.d0 1 d) (i : Fin 32) (t : Fin 64) (d : Fin 128) :
    k1_pay9 k1_pay2 v13 v46 v51 (ix3 i t d) = a1 I (p i) 1 t d := by
  pointwise [k1_pay9]
  simp only [hp, hs, hd, mask_at, c_slope, a1, att, wgt, score]
  rfl

/-- The third head. -/
theorem head2 (v13 : FVec Ideal S2048x512 .f32) (v76 v81 : Vec Ideal S1x128 .f32)
    (hp : ∀ (i : Fin 32) (t : Fin 64) (e : Fin 512), v13 (ix2 ⟨i * 64 + t, by omega⟩ e) = h I (p i) t e)
    (hs : ∀ d, v76 (ix2 0 d) = I.s0 2 d) (hd : ∀ d, v81 (ix2 0 d) = I.d0 2 d) (i : Fin 32) (t : Fin 64) (d : Fin 128) :
    k1_pay13 k1_pay2 (k1_pay10 v13) (k1_pay11 v13 v76) (k1_pay12 v13 v81) (ix3 i t d) = a1 I (p i) 2 t d := by
  pointwise [k1_pay13, k1_pay10, k1_pay11, k1_pay12]
  simp only [hp, hs, hd, mask_at, c_slope, a1, att, wgt, score]
  rfl

/-- The fourth head: its sum before the division, and the divisor. -/
theorem head3 (v13 : FVec Ideal S2048x512 .f32) (v106 v111 : Vec Ideal S1x128 .f32)
    (hp : ∀ (i : Fin 32) (t : Fin 64) (e : Fin 512), v13 (ix2 ⟨i * 64 + t, by omega⟩ e) = h I (p i) t e)
    (hs : ∀ d, v106 (ix2 0 d) = I.s0 3 d) (hd : ∀ d, v111 (ix2 0 d) = I.d0 3 d) (i : Fin 32) (t : Fin 64) (d : Fin 128) :
    k1_pay17 k1_pay2 v13 v106 v111 (ix3 i t d) * Ideal.div 1 (k1_pay16 k1_pay2 v13 v106 v111 (ix3 i t 0)) = a1 I (p i) 3 t d := by
  pointwise [k1_pay17, k1_pay16, k1_pay15, k1_pay14]
  simp only [hp, hs, hd, mask_at, c_slope, a1, att, wgt, score]
  rfl

/-- The second layer's projection, from the four heads. -/
theorem proj2 (v43 v73 v103 : FVec Ideal S32x64x128 .f32) (v128 : FVec Ideal S32x64x1 .f32) (v129 : FVec Ideal S32x64x128 .f32)
    (v135 : Vec Ideal S1x512 .f32) (v149 : Vec Ideal S512x256 .f32)
    (h0 : ∀ i t d, v43 (ix3 i t d) = a1 I (p i) 0 t d) (h1 : ∀ i t d, v73 (ix3 i t d) = a1 I (p i) 1 t d)
    (h2' : ∀ i t d, v103 (ix3 i t d) = a1 I (p i) 2 t d)
    (h3 : ∀ i t d, v129 (ix3 i t d) * Ideal.div 1 (v128 (ix3 i t 0)) = a1 I (p i) 3 t d)
    (hb : ∀ e, v135 (ix2 0 e) = I.c0 e) (hW : ∀ e d, v149 (ix2 e d) = I.U1 e d) (i : Fin 32) (t : Fin 64) (d : Fin 256) :
    k1_pay18 v43 v73 v103 v128 v129 (Scalar.ofBits .f32 0x3F800000#32) v135 v149 (ix3 i t d) = h2 I (p i) t d := by
  have key : ∀ e : Fin 512, (if q : (e : ℕ) < 128 then v43 (ix3 i t ⟨e, q⟩)
      else if q : (e : ℕ) - 128 < 128 then v73 (ix3 i t ⟨e - 128, q⟩)
      else if q : (e : ℕ) - 128 - 128 < 128 then v103 (ix3 i t ⟨e - 128 - 128, q⟩)
      else v129 (ix3 i t ⟨e - 128 - 128 - 128, by omega⟩) * Ideal.div 1 (v128 (ix3 i t 0)))
      = a1 I (p i) ⟨e / 128, by omega⟩ t ⟨e % 128, by omega⟩ := by
    intro e
    split_ifs with q1 q2 q3
    · rw [h0]; exact a1_congr I (p i) t (by show 0 = (e : ℕ) / 128; omega) (by dsimp only; omega)
    · rw [h1]; exact a1_congr I (p i) t (by show 1 = (e : ℕ) / 128; omega) (by dsimp only; omega)
    · rw [h2']; exact a1_congr I (p i) t (by show 2 = (e : ℕ) / 128; omega) (by dsimp only; omega)
    · rw [h3]; exact a1_congr I (p i) t (by show 3 = (e : ℕ) / 128; omega) (by dsimp only; omega)
  pointwise [k1_pay18]
  simp only [key, hb, hW]
  rfl

/-- The second layer's weights of a pair of times, and their sum. -/
theorem wgt2 (v43 v73 v103 : FVec Ideal S32x64x128 .f32) (v128 : FVec Ideal S32x64x1 .f32) (v129 : FVec Ideal S32x64x128 .f32)
    (cst : Ideal .f32) (v135 : Vec Ideal S1x512 .f32) (v149 : Vec Ideal S512x256 .f32) (v152 v157 : Vec Ideal S1x256 .f32)
    (hp : ∀ i t d, k1_pay18 v43 v73 v103 v128 v129 cst v135 v149 (ix3 i t d) = h2 I (p i) t d)
    (hs : ∀ d, v152 (ix2 0 d) = I.s1 d) (hd : ∀ d, v157 (ix2 0 d) = I.d1 d) (i : Fin 32) (t u : Fin 64) :
    k1_pay19 k1_pay2 v43 v73 v103 v128 v129 cst v135 v149 v152 v157 (ix3 i t u)
      = wgt (fun t => ∑ d, h2 I (p i) t d * I.s1 d) (fun t => ∑ d, h2 I (p i) t d * I.d1 d) t u := by
  pointwise [k1_pay19]
  simp only [hp, hs, hd, mask_at, c_slope, wgt, score]

theorem wgt2_sum (v43 v73 v103 : FVec Ideal S32x64x128 .f32) (v128 : FVec Ideal S32x64x1 .f32) (v129 : FVec Ideal S32x64x128 .f32)
    (cst : Ideal .f32) (v135 : Vec Ideal S1x512 .f32) (v149 : Vec Ideal S512x256 .f32) (v152 v157 : Vec Ideal S1x256 .f32)
    (hp : ∀ i t d, k1_pay18 v43 v73 v103 v128 v129 cst v135 v149 (ix3 i t d) = h2 I (p i) t d)
    (hs : ∀ d, v152 (ix2 0 d) = I.s1 d) (hd : ∀ d, v157 (ix2 0 d) = I.d1 d) (i : Fin 32) (t : Fin 64) :
    k1_pay20 k1_pay2 v43 v73 v103 v128 v129 cst v135 v149 v152 v157 (ix2 i t)
      = ∑ u, wgt (fun t => ∑ d, h2 I (p i) t d * I.s1 d) (fun t => ∑ d, h2 I (p i) t d * I.d1 d) t u := by
  pointwise [k1_pay20]
  simp only [wgt2 I p v43 v73 v103 v128 v129 cst v135 v149 v152 v157 hp hs hd]

/-- The last layer before its norm. -/
theorem fused (v151 : FVec Ideal S32x64x256 .f32) (v172 : FVec Ideal S32x64x64 .f32) (v173 : FVec Ideal S32x64 .f32)
    (v180 : Vec Ideal S1x256 .f32) (v185 : Vec Ideal S32x64x256 .f32) (v188 v191 : Vec Ideal S256x256 .f32) (v194 : Vec Ideal S1x256 .f32)
    (hp : ∀ i t d, v151 (ix3 i t d) = h2 I (p i) t d)
    (hw : ∀ i t u, v172 (ix3 i t u) = wgt (fun t => ∑ d, h2 I (p i) t d * I.s1 d) (fun t => ∑ d, h2 I (p i) t d * I.d1 d) t u)
    (hS : ∀ i t, v173 (ix2 i t) = ∑ u, wgt (fun t => ∑ d, h2 I (p i) t d * I.s1 d) (fun t => ∑ d, h2 I (p i) t d * I.d1 d) t u)
    (hb : ∀ d, v180 (ix2 0 d) = I.c1 d) (hx : ∀ i t d, v185 (ix3 i t d) = sp I t (p i) d)
    (hW : ∀ c d, v188 (ix2 c d) = I.Wf ⟨c, by omega⟩ d) (hV : ∀ c d, v191 (ix2 c d) = I.Wf ⟨256 + c, by omega⟩ d)
    (hf : ∀ d, v194 (ix2 0 d) = I.bf d) (i : Fin 32) (t : Fin 64) (d : Fin 256) :
    k1_pay21 v151 v172 v173 v180 v185 v188 v191 v194 (ix2 ⟨i * 64 + t, by omega⟩ d) = fu I (p i) t d := by
  have q : (⟨((i : ℕ) * 64 + t) / 64, by omega⟩ : Fin 32) = i := Fin.ext (by dsimp only; omega)
  have r : (⟨((i : ℕ) * 64 + t) % 64, by omega⟩ : Fin 64) = t := Fin.ext (by dsimp only; omega)
  pointwise [k1_pay21]
  simp only [q, r, hp, hw, hS, hb, hx, hW, hV, hf]
  rfl

/-- A row's norm over its 256 entries, written with the kernel's guarded divisor. -/
theorem guard256 {s : Shape} (a b : FVec Ideal s .f32) (ix : s.Idx) :
    (if 0 < Ideal.ofBits FTy.f32 1132462080#32 - ((((0#32 : BitVec 32).toInt : ℝ)) : EReal) then a else b) ix = a ix := by
  rw [if_pos]
  rw [c256]
  norm_num

theorem sub_zero_int (x : EReal) : x - ((((0#32 : BitVec 32).toInt : ℝ)) : EReal) = x := by simp

theorem gelu_assoc (x : EReal) : gelu x = x * (Ideal.ofBits .f32 0x3F000000#32
    * (1 + Ideal.tanh (Ideal.ofBits .f32 0x3F4C422A#32 * (x + Ideal.ofBits .f32 0x3D372713#32 * (x * (x * x)))))) := by
  rw [gelu, mul_assoc x x x]

/-- The result, from the last layer's rows and their means. -/
theorem final (v197 : FVec Ideal S2048x256 .f32) (v199 v201 : FVec Ideal S1x256 .f32) (v205 v209 : FVec Ideal S2048x1 .f32)
    (hx : ∀ (i : Fin 32) (t : Fin 64) d, v197 (ix2 ⟨i * 64 + t, by omega⟩ d) = fu I (p i) t d)
    (hm : ∀ (i : Fin 32) (t : Fin 64), v205 (ix2 ⟨i * 64 + t, by omega⟩ 0) = mean 256 (fu I (p i) t))
    (hm' : ∀ (i : Fin 32) (t : Fin 64), v209 (ix2 ⟨i * 64 + t, by omega⟩ 0) = mean 256 (fu I (p i) t))
    (hg : ∀ d, v199 (ix2 0 d) = I.gf d) (hb : ∀ d, v201 (ix2 0 d) = I.ef d) (i : Fin 32) (t : Fin 64) (d : Fin 256) :
    k1_pay1 v197 v199 v201 v205 0#32 v209 (ix3 i t d) = out I (p i) t d := by
  pointwise [k1_pay1]
  simp only [guard256]
  pointwise
  simp only [hx, hm, hm', hg, hb, sub_zero_int, c256, c_eps, out, gelu_assoc, ln, vare]

end Cert.KernelIdeal.Temporal

end
-- ==== Proof.KerTemporalBlock.lean ====
/- The temporal call's output block, from its input blocks. -/
module

public import proofs.«01_k».proof.Proof.KerTemporal
public import proofs.«01_k».proof.Proof.KernelIdealRegion1

@[expose] public section

set_option maxRecDepth 16384

noncomputable section

open Idealize.ShloMosaic Idealize.ShloMosaic.TcCoe Idealize.SL.Sem

namespace Cert.KernelIdeal.Temporal

open Cert.KernelIdeal Cert.KernelIdeal.Gen Cert.KernelIdeal.Run Cert.Consts Cert.Scal Cert.Spec

variable (I : Inp) (p : Fin 32 → Fin 512)

/-- The input blocks of the temporal call hold the inputs: the features and the spatial result of the points `p`, and the
    weights. -/
structure Blocks (x0 : Vec Ideal S32x64x256 .f32) (x1 : Vec Ideal S32x64x256 .f32) (x2 : Vec Ideal S256x512 .f32) (x3 : Vec Ideal S1x512 .f32) (x4 : Vec Ideal S4x128 .f32) (x5 : Vec Ideal S4x128 .f32) (x6 : Vec Ideal S1x256 .f32) (x7 : Vec Ideal S1x256 .f32) (x8 : Vec Ideal S512x256 .f32) (x9 : Vec Ideal S1x256 .f32) (x10 : Vec Ideal S512x256 .f32) (x11 : Vec Ideal S1x256 .f32) (x12 : Vec Ideal S1x256 .f32) (x13 : Vec Ideal S1x256 .f32) : Prop where
  x : ∀ i t d, x0 (ix3 i t d) = I.x (p i) t d
  sp : ∀ i t d, x1 (ix3 i t d) = Spec.sp I t (p i) d
  U0 : ∀ c e, x2 (ix2 c e) = I.U0 c e
  c0 : ∀ e, x3 (ix2 0 e) = I.c0 e
  s0 : ∀ k d, x4 (ix2 k d) = I.s0 k d
  d0 : ∀ k d, x5 (ix2 k d) = I.d0 k d
  s1 : ∀ d, x6 (ix2 0 d) = I.s1 d
  d1 : ∀ d, x7 (ix2 0 d) = I.d1 d
  U1 : ∀ e d, x8 (ix2 e d) = I.U1 e d
  c1 : ∀ d, x9 (ix2 0 d) = I.c1 d
  Wf : ∀ c d, x10 (ix2 c d) = I.Wf c d
  bf : ∀ d, x11 (ix2 0 d) = I.bf d
  gf : ∀ d, x12 (ix2 0 d) = I.gf d
  ef : ∀ d, x13 (ix2 0 d) = I.ef d

/-- The projected features. -/
theorem proj (v10 : Vec Ideal S32x64x256 .f32) (v12 : Vec Ideal S256x512 .f32)
    (hx : ∀ i t d, v10 (ix3 i t d) = I.x (p i) t d) (hU : ∀ c e, v12 (ix2 c e) = I.U0 c e)
    (i : Fin 32) (t : Fin 64) (e : Fin 512) : k1_pay3 v10 v12 (ix2 ⟨i * 64 + t, by omega⟩ e) = h I (p i) t e := by
  have q : (⟨((i : ℕ) * 64 + t) / 64, by omega⟩ : Fin 32) = i := Fin.ext (by dsimp only; omega)
  have r : (⟨((i : ℕ) * 64 + t) % 64, by omega⟩ : Fin 64) = t := Fin.ext (by dsimp only; omega)
  pointwise [k1_pay3]
  simp only [q, r, hx, hU]
  rfl

section
variable {v151 : FVec Ideal S32x64x256 .f32} {v172 : FVec Ideal S32x64x64 .f32} {v173 : FVec Ideal S32x64 .f32}
    {v180 : Vec Ideal S1x256 .f32} {v185 : Vec Ideal S32x64x256 .f32} {v188 v191 : Vec Ideal S256x256 .f32} {v194 : Vec Ideal S1x256 .f32}
    (hx : ∀ (i : Fin 32) (t : Fin 64) (d : Fin 256), k1_pay21 v151 v172 v173 v180 v185 v188 v191 v194 (ix2 ⟨i * 64 + t, by omega⟩ d) = fu I (p i) t d)
include hx

theorem row_mean (i : Fin 32) (t : Fin 64) :
    k1_pay24 v151 v172 v173 v180 v185 v188 v191 v194 (ix2 ⟨i * 64 + t, by omega⟩ 0) = mean 256 (fu I (p i) t) := by
  pointwise [k1_pay24]
  simp only [hx, c256, mean]

theorem row_mean' (i : Fin 32) (t : Fin 64) :
    k1_pay25 v151 v172 v173 v180 v185 v188 v191 v194 (ix2 ⟨i * 64 + t, by omega⟩ 0) = mean 256 (fu I (p i) t) := by
  pointwise [k1_pay25]
  simp only [hx, c256, mean]

end

/-- The output block. -/
theorem block {x0 : Vec Ideal S32x64x256 .f32} {x1 : Vec Ideal S32x64x256 .f32} {x2 : Vec Ideal S256x512 .f32} {x3 : Vec Ideal S1x512 .f32} {x4 : Vec Ideal S4x128 .f32} {x5 : Vec Ideal S4x128 .f32} {x6 : Vec Ideal S1x256 .f32} {x7 : Vec Ideal S1x256 .f32} {x8 : Vec Ideal S512x256 .f32} {x9 : Vec Ideal S1x256 .f32} {x10 : Vec Ideal S512x256 .f32} {x11 : Vec Ideal S1x256 .f32} {x12 : Vec Ideal S1x256 .f32} {x13 : Vec Ideal S1x256 .f32} (B : Blocks I p x0 x1 x2 x3 x4 x5 x6 x7 x8 x9 x10 x11 x12 x13)
    (i : Fin 32) (t : Fin 64) (d : Fin 256) : out1_14 x0 x1 x2 x3 x4 x5 x6 x7 x8 x9 x10 x11 x12 x13 (ix3 i t d) = out I (p i) t d := by
  have hp : ∀ (i : Fin 32) (t : Fin 64) (e : Fin 512), k1_pay27 x0 x1 x2 x3 x4 x5 x6 x7 x8 x9 x10 x11 x12 x13 (ix2 ⟨i * 64 + t, by omega⟩ e) = h I (p i) t e :=
    proj I p _ _ (fun i t d => by pointwise; exact B.x i t d) (fun c e => by pointwise; exact B.U0 c e)
  have h0 : ∀ i t d, k1_pay28 x0 x1 x2 x3 x4 x5 x6 x7 x8 x9 x10 x11 x12 x13 (ix3 i t d) = a1 I (p i) 0 t d :=
    head0 I p _ _ _ _ hp (fun d => by pointwise; exact B.s0 0 d) (fun d => by pointwise; exact B.d0 0 d)
  have h1 : ∀ i t d, k1_pay29 x0 x1 x2 x3 x4 x5 x6 x7 x8 x9 x10 x11 x12 x13 (ix3 i t d) = a1 I (p i) 1 t d :=
    head1 I p _ _ _ hp (fun d => by pointwise; exact B.s0 1 d) (fun d => by pointwise; exact B.d0 1 d)
  have h2' : ∀ i t d, k1_pay30 x0 x1 x2 x3 x4 x5 x6 x7 x8 x9 x10 x11 x12 x13 (ix3 i t d) = a1 I (p i) 2 t d :=
    head2 I p _ _ _ hp (fun d => by pointwise; exact B.s0 2 d) (fun d => by pointwise; exact B.d0 2 d)
  have h3 : ∀ i t d, k1_pay32 x0 x1 x2 x3 x4 x5 x6 x7 x8 x9 x10 x11 x12 x13 (ix3 i t d) * Ideal.div 1 (k1_pay31 x0 x1 x2 x3 x4 x5 x6 x7 x8 x9 x10 x11 x12 x13 (ix3 i t 0)) = a1 I (p i) 3 t d :=
    head3 I p _ _ _ hp (fun d => by pointwise; exact B.s0 3 d) (fun d => by pointwise; exact B.d0 3 d)
  have hh2 : ∀ i t d, k1_pay33 x0 x1 x2 x3 x4 x5 x6 x7 x8 x9 x10 x11 x12 x13 (ix3 i t d) = h2 I (p i) t d :=
    proj2 I p _ _ _ _ _ _ _ h0 h1 h2' h3 (fun e => by pointwise; exact B.c0 e) (fun e d => by pointwise; exact B.U1 e d)
  have hw : ∀ i t u, k1_pay34 x0 x1 x2 x3 x4 x5 x6 x7 x8 x9 x10 x11 x12 x13 (ix3 i t u) = wgt (fun t => ∑ d, h2 I (p i) t d * I.s1 d) (fun t => ∑ d, h2 I (p i) t d * I.d1 d) t u :=
    wgt2 I p _ _ _ _ _ _ _ _ _ _ hh2 (fun d => by pointwise; exact B.s1 d) (fun d => by pointwise; exact B.d1 d)
  have hS : ∀ i t, k1_pay35 x0 x1 x2 x3 x4 x5 x6 x7 x8 x9 x10 x11 x12 x13 (ix2 i t) = ∑ u, wgt (fun t => ∑ d, h2 I (p i) t d * I.s1 d) (fun t => ∑ d, h2 I (p i) t d * I.d1 d) t u :=
    wgt2_sum I p _ _ _ _ _ _ _ _ _ _ hh2 (fun d => by pointwise; exact B.s1 d) (fun d => by pointwise; exact B.d1 d)
  have hx := fused I p _ _ _ (View.ld x9 r1_8) (View.ld x1 r1_0) (View.ld x10 r1_9) (View.ld x10 r1_10) (View.ld x11 r1_8) hh2 hw hS
    (fun d => by pointwise; exact B.c1 d) (fun i t d => by pointwise; exact B.sp i t d)
    (fun c d => by pointwise; exact B.Wf _ d) (fun c d => by pointwise; exact B.Wf _ d) (fun d => by pointwise; exact B.bf d)
  have hf := final I p _ (k1_pay22 (View.ld x12 r1_8)) (k1_pay23 (View.ld x13 r1_8)) _ _ hx (row_mean I p hx) (row_mean' I p hx)
    (fun d => by pointwise [k1_pay22]; exact B.gf d) (fun d => by pointwise [k1_pay23]; exact B.ef d) i t d
  rw [← hf]
  unfold out1_14
  exact congrFun (View.canon_unit_zero (by funext a; fin_cases a <;> rfl) _ _) _

end Cert.KernelIdeal.Temporal

end
-- ==== Proof.KerRegion1.lean ====
/- The array that the temporal call leaves: the result. -/
module

public import proofs.«01_k».proof.Proof.KerTemporalBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat Cfg Window)

namespace Cert.KernelIdeal.Temporal

open Cert.KernelIdeal Cert.KernelIdeal.Gen Cert.KernelIdeal.Run Cert.Consts Cert.Scal Cert.Spec

theorem idx1 : ∀ t : Fin cfg1.N, win1_0.index t = ![t.val, 0, 0] ∧ win1_1.index t = ![t.val, 0, 0] ∧ win1_2.index t = ![0, 0] ∧ win1_3.index t = ![0, 0] ∧ win1_4.index t = ![0, 0] ∧ win1_5.index t = ![0, 0] ∧ win1_6.index t = ![0, 0] ∧ win1_7.index t = ![0, 0] ∧ win1_8.index t = ![0, 0] ∧ win1_9.index t = ![0, 0] ∧ win1_10.index t = ![0, 0] ∧ win1_11.index t = ![0, 0] ∧ win1_12.index t = ![0, 0] ∧ win1_13.index t = ![0, 0] ∧ win1_14.index t = ![t.val, 0, 0] ∧ t.val < 16 :=
  (by decide +kernel : ∀ t : Fin grid1.N, _)

/-- The points of a grid point's block. -/
def pt (t : Fin cfg1.N) (i : Fin 32) : Fin 512 := ⟨t.val * 32 + i, by have := (idx1 t).2.2.2.2.2.2.2.2.2.2.2.2.2.2.2; omega⟩

variable (V : (c : Dev nD) → (b : Ref sig .tc) → Buf (Elt Ideal) ((c : Thread nD τ).loc b)) (c : Dev nD) (I : Inp)

/-- The arrays that the temporal call reads hold the inputs and the spatial result. -/
structure Arrays : Prop where
  x : ∀ m t d, V c main_arg0 (ix3 m t d) = I.x m t d
  sp : ∀ m t d, V c main_v10 (ix3 m t d) = Spec.sp I t m d
  U0 : ∀ c' k, V c main_arg15 (ix2 c' k) = I.U0 c' k
  c0 : ∀ k, V c main_v11 (ix2 0 k) = I.c0 k
  s0 : ∀ c' k, V c main_arg17 (ix2 c' k) = I.s0 c' k
  d0 : ∀ c' k, V c main_arg18 (ix2 c' k) = I.d0 c' k
  s1 : ∀ k, V c main_arg21 (ix2 0 k) = I.s1 k
  d1 : ∀ k, V c main_arg22 (ix2 0 k) = I.d1 k
  U1 : ∀ c' k, V c main_arg19 (ix2 c' k) = I.U1 c' k
  c1 : ∀ k, V c main_v12 (ix2 0 k) = I.c1 k
  Wf : ∀ c' k, V c main_arg23 (ix2 c' k) = I.Wf c' k
  bf : ∀ k, V c main_v13 (ix2 0 k) = I.bf k
  gf : ∀ k, V c main_v14 (ix2 0 k) = I.gf k
  ef : ∀ k, V c main_v15 (ix2 0 k) = I.ef k

variable {V c I}

theorem blk1_0 (t : Fin cfg1.N) (i : Fin 32) (s : Fin 64) (d : Fin 256) : iblk1 V c 0 t (ix3 i s d) = V c main_arg0 (ix3 (pt t i) s d) := by
  unfold pt; blk_ext [iblk1, idx1 t]
theorem blk1_1 (t : Fin cfg1.N) (i : Fin 32) (s : Fin 64) (d : Fin 256) : iblk1 V c 1 t (ix3 i s d) = V c main_v10 (ix3 (pt t i) s d) := by
  unfold pt; blk_ext [iblk1, idx1 t]
theorem blk1_2 (t : Fin cfg1.N) (a k) : iblk1 V c 2 t (ix2 a k) = V c main_arg15 (ix2 a k) := by blk_ext [iblk1, idx1 t]
theorem blk1_3 (t : Fin cfg1.N) (a k) : iblk1 V c 3 t (ix2 a k) = V c main_v11 (ix2 a k) := by blk_ext [iblk1, idx1 t]
theorem blk1_4 (t : Fin cfg1.N) (a k) : iblk1 V c 4 t (ix2 a k) = V c main_arg17 (ix2 a k) := by blk_ext [iblk1, idx1 t]
theorem blk1_5 (t : Fin cfg1.N) (a k) : iblk1 V c 5 t (ix2 a k) = V c main_arg18 (ix2 a k) := by blk_ext [iblk1, idx1 t]
theorem blk1_6 (t : Fin cfg1.N) (a k) : iblk1 V c 6 t (ix2 a k) = V c main_arg21 (ix2 a k) := by blk_ext [iblk1, idx1 t]
theorem blk1_7 (t : Fin cfg1.N) (a k) : iblk1 V c 7 t (ix2 a k) = V c main_arg22 (ix2 a k) := by blk_ext [iblk1, idx1 t]
theorem blk1_8 (t : Fin cfg1.N) (a k) : iblk1 V c 8 t (ix2 a k) = V c main_arg19 (ix2 a k) := by blk_ext [iblk1, idx1 t]
theorem blk1_9 (t : Fin cfg1.N) (a k) : iblk1 V c 9 t (ix2 a k) = V c main_v12 (ix2 a k) := by blk_ext [iblk1, idx1 t]
theorem blk1_10 (t : Fin cfg1.N) (a k) : iblk1 V c 10 t (ix2 a k) = V c main_arg23 (ix2 a k) := by blk_ext [iblk1, idx1 t]
theorem blk1_11 (t : Fin cfg1.N) (a k) : iblk1 V c 11 t (ix2 a k) = V c main_v13 (ix2 a k) := by blk_ext [iblk1, idx1 t]
theorem blk1_12 (t : Fin cfg1.N) (a k) : iblk1 V c 12 t (ix2 a k) = V c main_v14 (ix2 a k) := by blk_ext [iblk1, idx1 t]
theorem blk1_13 (t : Fin cfg1.N) (a k) : iblk1 V c 13 t (ix2 a k) = V c main_v15 (ix2 a k) := by blk_ext [iblk1, idx1 t]

theorem blocks (R : Arrays V c I) (t : Fin cfg1.N) : Blocks I (pt t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) where
  x i s d := (blk1_0 t i s d).trans (R.x (pt t i) s d)
  sp i s d := (blk1_1 t i s d).trans (R.sp (pt t i) s d)
  U0 a k := (blk1_2 t a k).trans (R.U0 a k)
  c0 k := (blk1_3 t 0 k).trans (R.c0 k)
  s0 a k := (blk1_4 t a k).trans (R.s0 a k)
  d0 a k := (blk1_5 t a k).trans (R.d0 a k)
  s1 k := (blk1_6 t 0 k).trans (R.s1 k)
  d1 k := (blk1_7 t 0 k).trans (R.d1 k)
  U1 a k := (blk1_8 t a k).trans (R.U1 a k)
  c1 k := (blk1_9 t 0 k).trans (R.c1 k)
  Wf a k := (blk1_10 t a k).trans (R.Wf a k)
  bf k := (blk1_11 t 0 k).trans (R.bf k)
  gf k := (blk1_12 t 0 k).trans (R.gf k)
  ef k := (blk1_13 t 0 k).trans (R.ef k)

/-- The temporal call's array. -/
theorem array_at (R : Arrays V c I) (n : Fin 512) (t : Fin 64) (k : Fin 256) :
    (dat1 V c).arrAt 14 cfg1.N (ix3 n t k) = out I n t k := by
  refine congrFun ((dat1 V c).arrAt_eq_of_covers 14 (fun y : S512x64x256.Idx => out I (y 0) (y 1) (y 2)) (by decide +kernel) fun t _ y => ?_)
    (ix3 n t k)
  blk_simp
  rw [after1_14]
  have e : out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) y = out I (pt t (y 0)) (y 1) (y 2) :=
    (congrArg (out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)) (eq_ix3 y)).trans (block I (pt t) (blocks R t) (y 0) (y 1) (y 2))
  have h : ∀ f : S512x64x256.Idx → EReal, f ((win1_14.blk t).view.emb y) = f (ix3 (pt t (y 0)) (y 1) (y 2)) := fun f => by
    unfold pt; blk_ext [idx1 t]
  exact e.trans (h (fun y => out I (y 0) (y 1) (y 2))).symm

end Cert.KernelIdeal.Temporal

end
-- ==== Proof.Inputs.lean ====
/- The inputs, read from the arguments, and what the kernel's two calls find in their arrays. -/
module

public import proofs.«01_k».proof.Proof.KerRegion0
public import proofs.«01_k».proof.Proof.KerRegion1
public import proofs.«01_k».proof.Proof.KernelIdealRun
public import Idealize.ShloMosaic.Lib.StableHlo.ReadAt

@[expose] public section

set_option maxRecDepth 16384

noncomputable section

open Idealize.ShloMosaic Idealize.ShloMosaic.TcCoe Idealize.SL.Sem

namespace Cert.KernelIdeal.Inputs

open Cert.KernelIdeal Cert.KernelIdeal.Gen Cert.KernelIdeal.Run Cert.Consts Cert.Scal Cert.Spec

variable (m : (ℓ : Loc nD τ sig) → Buf (Elt Ideal) ℓ) (ρ : Dev nD → PrngReg) (c : Dev nD)

/-- The inputs that a device's arguments hold. -/
def inp : Inp where
  lat n := EReal.toReal (HMul.hMul (α := EReal) (β := EReal) (γ := EReal) (m ((c : Thread nD τ).loc main_arg1) (ix2 n 0)) (rad : EReal))
  lon n := EReal.toReal (HMul.hMul (α := EReal) (β := EReal) (γ := EReal) (m ((c : Thread nD τ).loc main_arg1) (ix2 n 1)) (rad : EReal))
  x n t d := m ((c : Thread nD τ).loc main_arg0) (ix3 n t d)
  W0 c' k := m ((c : Thread nD τ).loc main_arg3) (ix2 c' k)
  b0 k := m ((c : Thread nD τ).loc main_arg4) (ix1 k)
  g0 k := m ((c : Thread nD τ).loc main_arg5) (ix1 k)
  e0 k := m ((c : Thread nD τ).loc main_arg6) (ix1 k)
  W1 c' k := m ((c : Thread nD τ).loc main_arg7) (ix2 c' k)
  b1 k := m ((c : Thread nD τ).loc main_arg8) (ix1 k)
  g1 k := m ((c : Thread nD τ).loc main_arg9) (ix1 k)
  e1 k := m ((c : Thread nD τ).loc main_arg10) (ix1 k)
  W2 c' k := m ((c : Thread nD τ).loc main_arg11) (ix2 c' k)
  b2 k := m ((c : Thread nD τ).loc main_arg12) (ix1 k)
  g2 k := m ((c : Thread nD τ).loc main_arg13) (ix1 k)
  e2 k := m ((c : Thread nD τ).loc main_arg14) (ix1 k)
  U0 c' k := m ((c : Thread nD τ).loc main_arg15) (ix2 c' k)
  c0 k := m ((c : Thread nD τ).loc main_arg16) (ix1 k)
  s0 c' k := m ((c : Thread nD τ).loc main_arg17) (ix2 c' k)
  d0 c' k := m ((c : Thread nD τ).loc main_arg18) (ix2 c' k)
  U1 c' k := m ((c : Thread nD τ).loc main_arg19) (ix2 c' k)
  c1 k := m ((c : Thread nD τ).loc main_arg20) (ix1 k)
  s1 k := m ((c : Thread nD τ).loc main_arg21) (ix2 0 k)
  d1 k := m ((c : Thread nD τ).loc main_arg22) (ix2 0 k)
  Wf c' k := m ((c : Thread nD τ).loc main_arg23) (ix2 c' k)
  bf k := m ((c : Thread nD τ).loc main_arg24) (ix1 k)
  gf k := m ((c : Thread nD τ).loc main_arg25) (ix1 k)
  ef k := m ((c : Thread nD τ).loc main_arg26) (ix1 k)

/-- The coordinates are real numbers. -/
def RealCoords : Prop := ∀ i, Rl (m ((c : Thread nD τ).loc main_arg1) i)

variable {m c}

theorem rad_mul (h : RealCoords m c) (i) :
    HMul.hMul (α := EReal) (β := EReal) (γ := EReal) (m ((c : Thread nD τ).loc main_arg1) i) (rad : EReal)
      = ((EReal.toReal (HMul.hMul (α := EReal) (β := EReal) (γ := EReal) (m ((c : Thread nD τ).loc main_arg1) i) (rad : EReal)) : ℝ) : EReal) := by
  obtain ⟨r, hr⟩ := h i
  rw [hr, ← EReal.coe_mul, EReal.toReal_coe]

variable (m c)

theorem V1_arg (a : Ref sig .tc) (h : a ∈ argRefs) : V1 m ρ c a = m ((c : Thread nD τ).loc a) := W1_args m ρ c a h

theorem V3_arg (a : Ref sig .tc) (h : a ∈ argRefs) : V3 m ρ c a = m ((c : Thread nD τ).loc a) := W3_args m ρ c a h

theorem v0_at (k : Fin 2) (i : Fin 512) : V1 m ρ c main_v0 (ix2 k i) = m ((c : Thread nD τ).loc main_arg1) (ix2 i k) := by
  show StableHlo.after hostOps0 (W0 m ρ c) (Proc.devRef .tc main_v0) (ix2 k i) = W0 m ρ c (Proc.devRef .tc main_arg1) (ix2 i k)
  unfold hostOps0
  after_reads_at

theorem v1_at (k : Fin 128) : V1 m ρ c main_v1 (ix2 0 k) = m ((c : Thread nD τ).loc main_arg4) (ix1 k) := by
  show StableHlo.after hostOps0 (W0 m ρ c) (Proc.devRef .tc main_v1) (ix2 0 k) = W0 m ρ c (Proc.devRef .tc main_arg4) (ix1 k)
  unfold hostOps0
  after_reads_at

theorem v2_at (k : Fin 128) : V1 m ρ c main_v2 (ix2 0 k) = m ((c : Thread nD τ).loc main_arg5) (ix1 k) := by
  show StableHlo.after hostOps0 (W0 m ρ c) (Proc.devRef .tc main_v2) (ix2 0 k) = W0 m ρ c (Proc.devRef .tc main_arg5) (ix1 k)
  unfold hostOps0
  after_reads_at

theorem v3_at (k : Fin 128) : V1 m ρ c main_v3 (ix2 0 k) = m ((c : Thread nD τ).loc main_arg6) (ix1 k) := by
  show StableHlo.after hostOps0 (W0 m ρ c) (Proc.devRef .tc main_v3) (ix2 0 k) = W0 m ρ c (Proc.devRef .tc main_arg6) (ix1 k)
  unfold hostOps0
  after_reads_at

theorem v4_at (k : Fin 128) : V1 m ρ c main_v4 (ix2 0 k) = m ((c : Thread nD τ).loc main_arg8) (ix1 k) := by
  show StableHlo.after hostOps0 (W0 m ρ c) (Proc.devRef .tc main_v4) (ix2 0 k) = W0 m ρ c (Proc.devRef .tc main_arg8) (ix1 k)
  unfold hostOps0
  after_reads_at

theorem v5_at (k : Fin 128) : V1 m ρ c main_v5 (ix2 0 k) = m ((c : Thread nD τ).loc main_arg9) (ix1 k) := by
  show StableHlo.after hostOps0 (W0 m ρ c) (Proc.devRef .tc main_v5) (ix2 0 k) = W0 m ρ c (Proc.devRef .tc main_arg9) (ix1 k)
  unfold hostOps0
  after_reads_at

theorem v6_at (k : Fin 128) : V1 m ρ c main_v6 (ix2 0 k) = m ((c : Thread nD τ).loc main_arg10) (ix1 k) := by
  show StableHlo.after hostOps0 (W0 m ρ c) (Proc.devRef .tc main_v6) (ix2 0 k) = W0 m ρ c (Proc.devRef .tc main_arg10) (ix1 k)
  unfold hostOps0
  after_reads_at

theorem v7_at (k : Fin 256) : V1 m ρ c main_v7 (ix2 0 k) = m ((c : Thread nD τ).loc main_arg12) (ix1 k) := by
  show StableHlo.after hostOps0 (W0 m ρ c) (Proc.devRef .tc main_v7) (ix2 0 k) = W0 m ρ c (Proc.devRef .tc main_arg12) (ix1 k)
  unfold hostOps0
  after_reads_at

theorem v8_at (k : Fin 256) : V1 m ρ c main_v8 (ix2 0 k) = m ((c : Thread nD τ).loc main_arg13) (ix1 k) := by
  show StableHlo.after hostOps0 (W0 m ρ c) (Proc.devRef .tc main_v8) (ix2 0 k) = W0 m ρ c (Proc.devRef .tc main_arg13) (ix1 k)
  unfold hostOps0
  after_reads_at

theorem v9_at (k : Fin 256) : V1 m ρ c main_v9 (ix2 0 k) = m ((c : Thread nD τ).loc main_arg14) (ix1 k) := by
  show StableHlo.after hostOps0 (W0 m ρ c) (Proc.devRef .tc main_v9) (ix2 0 k) = W0 m ρ c (Proc.devRef .tc main_arg14) (ix1 k)
  unfold hostOps0
  after_reads_at

theorem v11_at (k : Fin 512) : V3 m ρ c main_v11 (ix2 0 k) = m ((c : Thread nD τ).loc main_arg16) (ix1 k) := by
  rw [← W2_args m ρ c main_arg16 (by decide)]
  show StableHlo.after hostOps1 (W2 m ρ c) (Proc.devRef .tc main_v11) (ix2 0 k) = W2 m ρ c (Proc.devRef .tc main_arg16) (ix1 k)
  unfold hostOps1
  after_reads_at

theorem v12_at (k : Fin 256) : V3 m ρ c main_v12 (ix2 0 k) = m ((c : Thread nD τ).loc main_arg20) (ix1 k) := by
  rw [← W2_args m ρ c main_arg20 (by decide)]
  show StableHlo.after hostOps1 (W2 m ρ c) (Proc.devRef .tc main_v12) (ix2 0 k) = W2 m ρ c (Proc.devRef .tc main_arg20) (ix1 k)
  unfold hostOps1
  after_reads_at

theorem v13_at (k : Fin 256) : V3 m ρ c main_v13 (ix2 0 k) = m ((c : Thread nD τ).loc main_arg24) (ix1 k) := by
  rw [← W2_args m ρ c main_arg24 (by decide)]
  show StableHlo.after hostOps1 (W2 m ρ c) (Proc.devRef .tc main_v13) (ix2 0 k) = W2 m ρ c (Proc.devRef .tc main_arg24) (ix1 k)
  unfold hostOps1
  after_reads_at

theorem v14_at (k : Fin 256) : V3 m ρ c main_v14 (ix2 0 k) = m ((c : Thread nD τ).loc main_arg25) (ix1 k) := by
  rw [← W2_args m ρ c main_arg25 (by decide)]
  show StableHlo.after hostOps1 (W2 m ρ c) (Proc.devRef .tc main_v14) (ix2 0 k) = W2 m ρ c (Proc.devRef .tc main_arg25) (ix1 k)
  unfold hostOps1
  after_reads_at

theorem v15_at (k : Fin 256) : V3 m ρ c main_v15 (ix2 0 k) = m ((c : Thread nD τ).loc main_arg26) (ix1 k) := by
  rw [← W2_args m ρ c main_arg26 (by decide)]
  show StableHlo.after hostOps1 (W2 m ρ c) (Proc.devRef .tc main_v15) (ix2 0 k) = W2 m ρ c (Proc.devRef .tc main_arg26) (ix1 k)
  unfold hostOps1
  after_reads_at

variable {m c}

/-- What the spatial call finds. -/
theorem spatial (h : RealCoords m c) : Spatial.Arrays (V1 m ρ) c (inp m c) where
  lat i := by rw [V1_arg m ρ c main_arg1 (by decide)]; exact rad_mul h _
  lon i := by rw [V1_arg m ρ c main_arg1 (by decide)]; exact rad_mul h _
  lat' i := by rw [v0_at]; exact rad_mul h _
  lon' i := by rw [v0_at]; exact rad_mul h _
  x n t d := by rw [V1_arg m ρ c main_arg0 (by decide)]; rfl
  W0 c' k := by rw [V1_arg m ρ c main_arg3 (by decide)]; rfl
  b0 k := v1_at m ρ c k
  g0 k := v2_at m ρ c k
  e0 k := v3_at m ρ c k
  W1 c' k := by rw [V1_arg m ρ c main_arg7 (by decide)]; rfl
  b1 k := v4_at m ρ c k
  g1 k := v5_at m ρ c k
  e1 k := v6_at m ρ c k
  W2 c' k := by rw [V1_arg m ρ c main_arg11 (by decide)]; rfl
  b2 k := v7_at m ρ c k
  g2 k := v8_at m ρ c k
  e2 k := v9_at m ρ c k

/-- What the temporal call finds. -/
theorem temporal (h : RealCoords m c) (hI : (inp m c).Good) : Temporal.Arrays (V3 m ρ) c (inp m c) where
  x n t d := by rw [V3_arg m ρ c main_arg0 (by decide)]; rfl
  sp n t d := by
    have e : V3 m ρ c main_v10 = (dat0 (V1 m ρ) c).arrAt 15 cfg0.N := (W3_of m ρ c main_v10 (by decide)).trans (W2_arr m ρ c 15)
    exact (congrFun e (ix3 n t d)).trans (Spatial.array_at (spatial ρ h) hI n t d)
  U0 c' k := by rw [V3_arg m ρ c main_arg15 (by decide)]; rfl
  c0 k := v11_at m ρ c k
  s0 c' k := by rw [V3_arg m ρ c main_arg17 (by decide)]; rfl
  d0 c' k := by rw [V3_arg m ρ c main_arg18 (by decide)]; rfl
  U1 c' k := by rw [V3_arg m ρ c main_arg19 (by decide)]; rfl
  c1 k := v12_at m ρ c k
  s1 k := by rw [V3_arg m ρ c main_arg21 (by decide)]; rfl
  d1 k := by rw [V3_arg m ρ c main_arg22 (by decide)]; rfl
  Wf c' k := by rw [V3_arg m ρ c main_arg23 (by decide)]; rfl
  bf k := v13_at m ρ c k
  gf k := v14_at m ρ c k
  ef k := v15_at m ρ c k

/-- The kernel's result. -/
theorem result (h : RealCoords m c) (hI : (inp m c).Good) (n : Fin 512) (t : Fin 64) (d : Fin 256) :
    W4 m ρ c (Proc.devRef .tc main_v16) (ix3 n t d) = out (inp m c) n t d :=
  (congrFun (W4_arr m ρ c 14) (ix3 n t d)).trans (Temporal.array_at (temporal ρ h hI) n t d)

end Cert.KernelIdeal.Inputs

end
-- ==== Proof.RefSpatial.lean ====
/- The reference's spatial stages, read at an index: each is the stage of `Cert.Spec` of the same name. -/
module

public import proofs.«01_k».proof.Proof.Gen.ReferenceIdeal.Run
public import proofs.«01_k».proof.Proof.Finite

@[expose] public section

set_option maxRecDepth 16384

noncomputable section

open Idealize.ShloMosaic Idealize.ShloMosaic.TcCoe Idealize.SL.Sem

namespace Cert.ReferenceIdeal.Stage

open Cert.ReferenceIdeal Cert.ReferenceIdeal.Value Cert.Consts Cert.Scal Cert.Spec

/-- The reference's arguments hold the inputs. -/
structure Reads (V0 : Valuation τ sig (Elt Ideal)) (I : Inp) : Prop where
  x : ∀ n t c, V0 (Proc.devRef .tc main_arg0) (ix3 n t c) = I.x n t c
  lat : ∀ n, HMul.hMul (α := EReal) (β := EReal) (γ := EReal) (V0 (Proc.devRef .tc main_arg1) (ix2 n 0)) (rad : EReal) = (I.lat n : EReal)
  lon : ∀ n, HMul.hMul (α := EReal) (β := EReal) (γ := EReal) (V0 (Proc.devRef .tc main_arg1) (ix2 n 1)) (rad : EReal) = (I.lon n : EReal)
  W0 : ∀ c k, V0 (Proc.devRef .tc main_arg3) (ix2 c k) = I.W0 c k
  b0 : ∀ k, V0 (Proc.devRef .tc main_arg4) (ix1 k) = I.b0 k
  g0 : ∀ k, V0 (Proc.devRef .tc main_arg5) (ix1 k) = I.g0 k
  e0 : ∀ k, V0 (Proc.devRef .tc main_arg6) (ix1 k) = I.e0 k
  W1 : ∀ c k, V0 (Proc.devRef .tc main_arg7) (ix2 c k) = I.W1 c k
  b1 : ∀ k, V0 (Proc.devRef .tc main_arg8) (ix1 k) = I.b1 k
  g1 : ∀ k, V0 (Proc.devRef .tc main_arg9) (ix1 k) = I.g1 k
  e1 : ∀ k, V0 (Proc.devRef .tc main_arg10) (ix1 k) = I.e1 k
  W2 : ∀ c k, V0 (Proc.devRef .tc main_arg11) (ix2 c k) = I.W2 c k
  b2 : ∀ k, V0 (Proc.devRef .tc main_arg12) (ix1 k) = I.b2 k
  g2 : ∀ k, V0 (Proc.devRef .tc main_arg13) (ix1 k) = I.g2 k
  e2 : ∀ k, V0 (Proc.devRef .tc main_arg14) (ix1 k) = I.e2 k
  U0 : ∀ c k, V0 (Proc.devRef .tc main_arg15) (ix2 c k) = I.U0 c k
  c0 : ∀ k, V0 (Proc.devRef .tc main_arg16) (ix1 k) = I.c0 k
  s0 : ∀ k d, V0 (Proc.devRef .tc main_arg17) (ix2 k d) = I.s0 k d
  d0 : ∀ k d, V0 (Proc.devRef .tc main_arg18) (ix2 k d) = I.d0 k d
  U1 : ∀ c k, V0 (Proc.devRef .tc main_arg19) (ix2 c k) = I.U1 c k
  c1 : ∀ k, V0 (Proc.devRef .tc main_arg20) (ix1 k) = I.c1 k
  s1 : ∀ d, V0 (Proc.devRef .tc main_arg21) (ix2 0 d) = I.s1 d
  d1 : ∀ d, V0 (Proc.devRef .tc main_arg22) (ix2 0 d) = I.d1 d
  Wf : ∀ c k, V0 (Proc.devRef .tc main_arg23) (ix2 c k) = I.Wf c k
  bf : ∀ k, V0 (Proc.devRef .tc main_arg24) (ix1 k) = I.bf k
  gf : ∀ k, V0 (Proc.devRef .tc main_arg25) (ix1 k) = I.gf k
  ef : ∀ k, V0 (Proc.devRef .tc main_arg26) (ix1 k) = I.ef k

variable {V0 : Valuation τ sig (Elt Ideal)} {I : Inp}

theorem lat_at (R : Reads V0 I) (i : Fin 512) : res_main_v3 (F := Ideal) V0 (ix1 i) = (I.lat i : EReal) := by
  pointwise [res_main_v3]
  rw [c_rad, R.lat]

theorem lon_at (R : Reads V0 I) (i : Fin 512) : res_main_v7 (F := Ideal) V0 (ix1 i) = (I.lon i : EReal) := by
  pointwise [res_main_v7]
  rw [c_rad, R.lon]

theorem sin_lat (R : Reads V0 I) (i j : Fin 512) :
    res_main_v20 (F := Ideal) V0 (ix2 i j) = ((Real.sin ((I.lat i - I.lat j) / 2) : ℝ) : EReal) := by
  pointwise [res_main_v20]
  rw [lat_at R, lat_at R, two, ← EReal.coe_sub, div_coe' _ (by norm_num), ← EReal.coe_mul, ← div_eq_mul_inv]
  rfl

theorem sin_lon (R : Reads V0 I) (i j : Fin 512) :
    res_main_v31 (F := Ideal) V0 (ix2 i j) = ((Real.sin ((I.lon i - I.lon j) / 2) : ℝ) : EReal) := by
  pointwise [res_main_v31]
  rw [lon_at R, lon_at R, two, ← EReal.coe_sub, div_coe' _ (by norm_num), ← EReal.coe_mul, ← div_eq_mul_inv]
  rfl

/-- The clipped haversine. -/
theorem hav_at (R : Reads V0 I) (i j : Fin 512) :
    res_main_v35 (F := Ideal) V0 (ix2 i j) = ((min 1 (max lo (Chord.hav (I.lat i) (I.lon i) (I.lat j) (I.lon j))) : ℝ) : EReal) := by
  pointwise [res_main_v35]
  simp only [id]
  pointwise
  have hc : ∀ r : ℝ, Ideal.cos (r : EReal) = ((Real.cos r : ℝ) : EReal) := fun _ => rfl
  simp only [sin_lat R, sin_lon R, lat_at R, hc, c_lo, ← EReal.coe_mul, ← EReal.coe_add]
  rw [EReal.coe_strictMono.monotone.map_min, EReal.coe_strictMono.monotone.map_max]
  rfl

/-- The diagonal. -/
theorem eye_at (i j : Fin 512) : Eq (α := EReal) (res_main_v48 (F := Ideal) V0 (ix2 i j)) (if i = j then 1 else 0) := by
  pointwise [res_main_v48]
  have key : BitVec.ofNat 32 (i : ℕ) = BitVec.ofNat 32 (j : ℕ) ↔ i = j := by
    constructor
    · intro h
      have := congrArg BitVec.toNat h
      simp only [BitVec.toNat_ofNat] at this
      exact Fin.ext (by omega)
    · rintro rfl; rfl
  have e : ∀ b : BitVec 1, FloatOps.uitofp (F := Ideal) .f32 b = ((b.toNat : ℝ) : EReal) := fun _ => rfl
  rw [e]
  by_cases h : i = j
  · subst h
    simp [IntOp.cmpi, IntOp.addi]
  · simp [IntOp.cmpi, IntOp.addi, h, beq_eq_false_iff_ne.mpr (fun q => h (key.mp q))]

/-- The adjacency. -/
theorem adj_at (R : Reads V0 I) (hI : I.Good) (i j : Fin 512) : res_main_v56 (F := Ideal) V0 (ix2 i j) = A I i j := by
  pointwise [res_main_v56]
  simp only [id]
  pointwise
  set h := Chord.hav (I.lat i) (I.lon i) (I.lat j) (I.lon j) with hh
  have h1 : min 1 (max lo h) ≤ 1 := min_le_left _ _
  have h0 : 0 ≤ min 1 (max lo h) := le_min zero_le_one ((by unfold lo; norm_num : (0 : ℝ) ≤ lo).trans (le_max_left _ _))
  have hs : ∀ r : ℝ, 0 ≤ r → Ideal.sqrt (r : EReal) = ((Real.sqrt r : ℝ) : EReal) := fun r hr => if_neg hr.not_gt
  have ha : ∀ r : ℝ, Ideal.atan2 ((Real.sqrt r : ℝ) : EReal) ((Real.sqrt (1 - r) : ℝ) : EReal) = ((Chord.angle r : ℝ) : EReal) := fun _ => rfl
  have one_sub : ∀ r : ℝ, (1 : EReal) - (r : EReal) = ((1 - r : ℝ) : EReal) := fun _ => rfl
  simp only [hav_at R, eye_at, diam, c50, ← hh, one_sub]
  rw [hs _ h0, hs _ (by linarith), ha, ← EReal.coe_mul]
  simp only [EReal.coe_lt_coe_iff, Chord.near_iff h (hI.tie i j)]
  by_cases e : i = j
  · simp [A, e, Scalar.select, IntOp.andi]
  · by_cases e' : h < Consts.T <;> simp [A, e, ← hh, e', Scalar.select, IntOp.andi]

/-- The root of the number of neighbours. -/
theorem deg_at (R : Reads V0 I) (hI : I.Good) (i : Fin 512) : res_main_v59 (F := Ideal) V0 (ix1 i) = Ideal.rsqrt (deg I i) := by
  pointwise [res_main_v59]
  simp only [adj_at R hI, neg_half]
  rw [← deg]
  obtain ⟨r, h0, h⟩ := deg_pos (I := I) i
  rw [h]
  show ((Real.rpow r (-(1 / 2)) : ℝ) : EReal) = (if r < 0 then ⊥ else if r = 0 then ⊤ else (((Real.sqrt r)⁻¹ : ℝ) : EReal))
  rw [if_neg h0.not_gt, if_neg h0.ne', Real.sqrt_eq_rpow, ← Real.rpow_neg h0.le]
  rfl

theorem norm_at (R : Reads V0 I) (hI : I.Good) (i j : Fin 512) : res_main_v65 (F := Ideal) V0 (ix2 i j) = nA I i j := by
  pointwise [res_main_v65]
  rw [deg_at R hI, deg_at R hI, adj_at R hI, nA]

/-- The first layer before its norm. -/
theorem layer1_at (R : Reads V0 I) (hI : I.Good) (t : Fin 64) (n : Fin 512) (k : Fin 128) :
    res_main_v73 (F := Ideal) V0 (ix3 t n k) = G1 I t n k := by
  pointwise [res_main_v73]
  simp only [norm_at R hI, R.x, R.W0, R.b0, G1, gcn]

theorem pos128 : (0 : EReal) < ((128 : ℝ) : EReal) := by exact_mod_cast (by norm_num : (0 : ℝ) < 128)
theorem pos256 : (0 : EReal) < ((256 : ℝ) : EReal) := by exact_mod_cast (by norm_num : (0 : ℝ) < 256)

theorem zero_int : FloatOps.sitofp (F := Ideal) .f32 (0#32 : BitVec 32) = (0 : EReal) := by
  show ((((0#32 : BitVec 32).toInt : ℝ)) : EReal) = 0
  simp

/-- The divisor of the first norm's variance. -/
theorem size1 : res_main_call2_v8 (F := Ideal) V0 ix0 = ((128 : ℝ) : EReal) := by
  pointwise [res_main_call2_v8]
  rw [c128, zero_int, sub_zero]

/-- The second layer before its norm. -/
theorem layer2_at (R : Reads V0 I) (hI : I.Good) (t : Fin 64) (n : Fin 512) (k : Fin 128) :
    res_main_v101 (F := Ideal) V0 (ix3 t n k) = G2 I t n k := by
  have hc : ∀ t n k, res_main_call2_v5 (F := Ideal) V0 (ix3 t n k) = G1 I t n k - mean 128 (G1 I t n) := fun t n k => by
    pointwise [res_main_call2_v5]
    simp only [layer1_at R hI, c128, mean]
  have hl := fun n k => ln_div (r := 128) (by norm_num) (G1 I t n) I.g0 I.e0 k
  pointwise [res_main_v101]
  simp only [size1, if_pos pos128, hc, layer1_at R hI, norm_at R hI, R.g0, R.e0, R.W1, R.b1, c128, c_eps]
  simp only [mean, vare] at hl ⊢
  simp only [hl, G2, H1, gcn]

theorem size2 : res_main_call4_v8 (F := Ideal) V0 ix0 = ((128 : ℝ) : EReal) := by
  pointwise [res_main_call4_v8]
  rw [c128, zero_int, sub_zero]

/-- The third layer before its norm. -/
theorem layer3_at (R : Reads V0 I) (hI : I.Good) (t : Fin 64) (n : Fin 512) (k : Fin 256) :
    res_main_v129 (F := Ideal) V0 (ix3 t n k) = G3 I t n k := by
  have hc : ∀ t n k, res_main_call4_v5 (F := Ideal) V0 (ix3 t n k) = G2 I t n k - mean 128 (G2 I t n) := fun t n k => by
    pointwise [res_main_call4_v5]
    simp only [layer2_at R hI, c128, mean]
  have hl := fun n k => ln_div (r := 128) (by norm_num) (G2 I t n) I.g1 I.e1 k
  pointwise [res_main_v129]
  simp only [size2, if_pos pos128, hc, layer2_at R hI, norm_at R hI, R.g1, R.e1, R.W2, R.b2, c128, c_eps]
  simp only [mean, vare] at hl ⊢
  simp only [hl, G3, H2, gcn]

theorem size3 : res_main_call6_v8 (F := Ideal) V0 ix0 = ((256 : ℝ) : EReal) := by
  pointwise [res_main_call6_v8]
  rw [c256, zero_int, sub_zero]

theorem centred3 (R : Reads V0 I) (hI : I.Good) (t : Fin 64) (n : Fin 512) (k : Fin 256) :
    res_main_call6_v5 (F := Ideal) V0 (ix3 t n k) = G3 I t n k - mean 256 (G3 I t n) := by
  pointwise [res_main_call6_v5]
  simp only [layer3_at R hI, c256, mean]

end Cert.ReferenceIdeal.Stage

end
-- ==== Proof.Pre.lean ====
/- What the precondition says of the arguments: they are real numbers, and no distance is near the threshold. -/
module

public import proofs.«01_k».proof.Proof.RefSpatial
public import proofs.«01_k».proof.Proof.Gen.Pre_finite_and_no_tie

@[expose] public section

set_option maxRecDepth 16384

noncomputable section

open Idealize.ShloMosaic Idealize.ShloMosaic.TcCoe Idealize.SL.Sem

namespace Cert.Pre

open Cert.Pre_finite_and_no_tie Cert.Consts Cert.Scal Cert.Spec

/-- The test for a finite number, over an array. -/
abbrev fin {s : Shape} (v : FVec Ideal s .f32) (hb : S_.BroadcastsInDim s (![] : Fin 0 → Fin s.rank)) : IVec s 1 :=
  cmpf .olt (Host.absf v) (broadcastInDim s ![] hb (constant S_ .f32 0x7F800000#32))

/-- A number whose absolute value is below plus infinity is a real number. -/
theorem real_of {x : EReal} (e : BitVec.ofBool (decide (max x (-x) < Ideal.ofBits .f32 0x7F800000#32)) = 1#1) : Rl x := by
  rw [c_top] at e
  have e : max x (-x) < (⊤ : EReal) := by
    by_contra q
    rw [decide_eq_false q] at e
    exact absurd e (by decide)
  refine Rl.of_ne (fun q => ?_) fun q => ?_
  · rw [q] at e; simp at e
  · rw [q] at e; simp at e

theorem left {a b : BitVec 1} (h : IntOp.andi a b = 1#1) : a = 1#1 := by
  revert h; unfold IntOp.andi; revert a b; decide

theorem right {a b : BitVec 1} (h : IntOp.andi a b = 1#1) : b = 1#1 := by
  revert h; unfold IntOp.andi; revert a b; decide

variable [Facts]
variable {a0 : FVec Ideal S512x64x256 .f32} {a1 : FVec Ideal S512x2 .f32} {a2 : FVec Ideal S512x64 .f32} {a3 : FVec Ideal S256x128 .f32} {a4 : FVec Ideal S128 .f32} {a5 : FVec Ideal S128 .f32} {a6 : FVec Ideal S128 .f32} {a7 : FVec Ideal S128x128 .f32} {a8 : FVec Ideal S128 .f32} {a9 : FVec Ideal S128 .f32} {a10 : FVec Ideal S128 .f32} {a11 : FVec Ideal S128x256 .f32} {a12 : FVec Ideal S256 .f32} {a13 : FVec Ideal S256 .f32} {a14 : FVec Ideal S256 .f32} {a15 : FVec Ideal S256x512 .f32} {a16 : FVec Ideal S512 .f32} {a17 : FVec Ideal S4x128 .f32} {a18 : FVec Ideal S4x128 .f32} {a19 : FVec Ideal S512x256 .f32} {a20 : FVec Ideal S256 .f32} {a21 : FVec Ideal S1x256 .f32} {a22 : FVec Ideal S1x256 .f32} {a23 : FVec Ideal S512x256 .f32} {a24 : FVec Ideal S256 .f32} {a25 : FVec Ideal S256 .f32} {a26 : FVec Ideal S256 .f32}

theorem real0 (h : (fn (F := Ideal) a0 a1 a2 a3 a4 a5 a6 a7 a8 a9 a10 a11 a12 a13 a14 a15 a16 a17 a18 a19 a20 a21 a22 a23 a24 a25 a26).2.1 = fun _ => 1#1) (i) : Rl (a0 i) := by
  have e : fin a0 _ i = 1#1 := congrFun h i
  exact real_of e

theorem real1 (h : (fn (F := Ideal) a0 a1 a2 a3 a4 a5 a6 a7 a8 a9 a10 a11 a12 a13 a14 a15 a16 a17 a18 a19 a20 a21 a22 a23 a24 a25 a26).2.2.1 = fun _ => 1#1) (i) : Rl (a1 i) := by
  have e : fin a1 _ i = 1#1 := congrFun h i
  exact real_of e

theorem real3 (h : (fn (F := Ideal) a0 a1 a2 a3 a4 a5 a6 a7 a8 a9 a10 a11 a12 a13 a14 a15 a16 a17 a18 a19 a20 a21 a22 a23 a24 a25 a26).2.2.2.1 = fun _ => 1#1) (c : Fin 256) (k : Fin 128) :
    Rl (a3 (ix2 c k)) ∧ Rl (a4 (ix1 k)) ∧ Rl (a5 (ix1 k)) ∧ Rl (a6 (ix1 k)) := by
  have e : (andi (andi (andi (fin a3 _) (broadcastInDim S256x128 ![0, 1] Facts.bcast_S1x128_S256x128_0_1 (broadcastInDim S1x128 ![1] Facts.bcast_S128_S1x128_1 (fin a4 Facts.bcast_S_S128)))) (broadcastInDim S256x128 ![0, 1] Facts.bcast_S1x128_S256x128_0_1 (broadcastInDim S1x128 ![1] Facts.bcast_S128_S1x128_1 (fin a5 Facts.bcast_S_S128)))) (broadcastInDim S256x128 ![0, 1] Facts.bcast_S1x128_S256x128_0_1 (broadcastInDim S1x128 ![1] Facts.bcast_S128_S1x128_1 (fin a6 Facts.bcast_S_S128)))) (ix2 c k) = 1#1 := congrFun h (ix2 c k)
  pointwise at e
  exact ⟨real_of (left (left (left e))), real_of (right (left (left e))), real_of (right (left e)), real_of (right e)⟩

theorem real7 (h : (fn (F := Ideal) a0 a1 a2 a3 a4 a5 a6 a7 a8 a9 a10 a11 a12 a13 a14 a15 a16 a17 a18 a19 a20 a21 a22 a23 a24 a25 a26).2.2.2.2.1 = fun _ => 1#1) (c : Fin 128) (k : Fin 128) :
    Rl (a7 (ix2 c k)) ∧ Rl (a8 (ix1 k)) ∧ Rl (a9 (ix1 k)) ∧ Rl (a10 (ix1 k)) := by
  have e : (andi (andi (andi (fin a7 _) (broadcastInDim S128x128 ![0, 1] Facts.bcast_S1x128_S128x128_0_1 (broadcastInDim S1x128 ![1] Facts.bcast_S128_S1x128_1 (fin a8 Facts.bcast_S_S128)))) (broadcastInDim S128x128 ![0, 1] Facts.bcast_S1x128_S128x128_0_1 (broadcastInDim S1x128 ![1] Facts.bcast_S128_S1x128_1 (fin a9 Facts.bcast_S_S128)))) (broadcastInDim S128x128 ![0, 1] Facts.bcast_S1x128_S128x128_0_1 (broadcastInDim S1x128 ![1] Facts.bcast_S128_S1x128_1 (fin a10 Facts.bcast_S_S128)))) (ix2 c k) = 1#1 := congrFun h (ix2 c k)
  pointwise at e
  exact ⟨real_of (left (left (left e))), real_of (right (left (left e))), real_of (right (left e)), real_of (right e)⟩

theorem real11 (h : (fn (F := Ideal) a0 a1 a2 a3 a4 a5 a6 a7 a8 a9 a10 a11 a12 a13 a14 a15 a16 a17 a18 a19 a20 a21 a22 a23 a24 a25 a26).2.2.2.2.2.1 = fun _ => 1#1) (i) : Rl (a11 i) := by
  have e : fin a11 _ i = 1#1 := congrFun h i
  exact real_of e

theorem real15 (h : (fn (F := Ideal) a0 a1 a2 a3 a4 a5 a6 a7 a8 a9 a10 a11 a12 a13 a14 a15 a16 a17 a18 a19 a20 a21 a22 a23 a24 a25 a26).2.2.2.2.2.2.1 = fun _ => 1#1) (c : Fin 256) (k : Fin 512) :
    Rl (a15 (ix2 c k)) ∧ Rl (a16 (ix1 k)) := by
  have e : (andi (fin a15 _) (broadcastInDim S256x512 ![0, 1] Facts.bcast_S1x512_S256x512_0_1 (broadcastInDim S1x512 ![1] Facts.bcast_S512_S1x512_1 (fin a16 Facts.bcast_S_S512)))) (ix2 c k) = 1#1 := congrFun h (ix2 c k)
  pointwise at e
  exact ⟨real_of (left e), real_of (right e)⟩

theorem real17 (h : (fn (F := Ideal) a0 a1 a2 a3 a4 a5 a6 a7 a8 a9 a10 a11 a12 a13 a14 a15 a16 a17 a18 a19 a20 a21 a22 a23 a24 a25 a26).2.2.2.2.2.2.2.1 = fun _ => 1#1) (c : Fin 4) (k : Fin 128) :
    Rl (a17 (ix2 c k)) ∧ Rl (a18 (ix2 c k)) := by
  have e : (andi (fin a17 _) (fin a18 _)) (ix2 c k) = 1#1 := congrFun h (ix2 c k)
  pointwise at e
  exact ⟨real_of (left e), real_of (right e)⟩

theorem real19 (h : (fn (F := Ideal) a0 a1 a2 a3 a4 a5 a6 a7 a8 a9 a10 a11 a12 a13 a14 a15 a16 a17 a18 a19 a20 a21 a22 a23 a24 a25 a26).2.2.2.2.2.2.2.2 = fun _ => 1#1) (c : Fin 512) (k : Fin 256) :
    Rl (a19 (ix2 c k)) ∧ Rl (a21 (ix2 0 k)) ∧ Rl (a22 (ix2 0 k)) := by
  have e : (andi (andi (fin a19 _) (broadcastInDim S512x256 ![0, 1] Facts.bcast_S1x256_S512x256_0_1 (fin a21 Facts.bcast_S_S1x256))) (broadcastInDim S512x256 ![0, 1] Facts.bcast_S1x256_S512x256_0_1 (fin a22 Facts.bcast_S_S1x256))) (ix2 c k) = 1#1 := congrFun h (ix2 c k)
  pointwise at e
  exact ⟨real_of (left (left e)), real_of (right (left e)), real_of (right e)⟩

open Cert.ReferenceIdeal.Gen Cert.ReferenceIdeal.Value in
theorem dist_eq {V0 : Valuation Cert.ReferenceIdeal.τ Cert.ReferenceIdeal.sig (Elt Ideal)} (h1 : V0 (Proc.devRef .tc Cert.ReferenceIdeal.main_arg1) = a1) :
    (fn (F := Ideal) a0 a1 a2 a3 a4 a5 a6 a7 a8 a9 a10 a11 a12 a13 a14 a15 a16 a17 a18 a19 a20 a21 a22 a23 a24 a25 a26).1
      = cmpf .ogt (Host.absf (subf (mulf (broadcastInDim S512x512 ![] Facts.bcast_S_S512x512 (constant S_ .f32 0x46471800#32))
          (Host.atan2 (Host.sqrt (show FVec Ideal S512x512 .f32 from res_main_v35 (F := Ideal) V0)) (Host.sqrt (subf (broadcastInDim S512x512 ![] Facts.bcast_S_S512x512 (constant S_ .f32 0x3F800000#32)) (show FVec Ideal S512x512 .f32 from res_main_v35 (F := Ideal) V0)))))
          (broadcastInDim S512x512 ![] Facts.bcast_S_S512x512 (constant S_ .f32 0x42480000#32))))
        (broadcastInDim S512x512 ![] Facts.bcast_S_S512x512 (constant S_ .f32 0x358637BD#32)) := by
  subst h1
  rfl

open Cert.ReferenceIdeal.Stage in
theorem tie {V0 : Valuation Cert.ReferenceIdeal.τ Cert.ReferenceIdeal.sig (Elt Ideal)} {I : Inp} (R : Reads V0 I)
    (h1 : V0 (Proc.devRef .tc Cert.ReferenceIdeal.main_arg1) = a1) (h : (fn (F := Ideal) a0 a1 a2 a3 a4 a5 a6 a7 a8 a9 a10 a11 a12 a13 a14 a15 a16 a17 a18 a19 a20 a21 a22 a23 a24 a25 a26).1 = fun _ => 1#1) (i j : Fin 512) :
    tol < |12742 * Chord.angle (min 1 (max lo (Chord.hav (I.lat i) (I.lon i) (I.lat j) (I.lon j)))) - 50| := by
  rw [dist_eq h1] at h
  have e := congrFun h (ix2 i j)
  pointwise at e
  set h := Chord.hav (I.lat i) (I.lon i) (I.lat j) (I.lon j) with hh
  have h1 : min 1 (max lo h) ≤ 1 := min_le_left _ _
  have h0 : 0 ≤ min 1 (max lo h) := le_min zero_le_one ((by unfold lo; norm_num : (0 : ℝ) ≤ lo).trans (le_max_left _ _))
  have hs : ∀ r : ℝ, 0 ≤ r → Ideal.sqrt (r : EReal) = ((Real.sqrt r : ℝ) : EReal) := fun r hr => if_neg hr.not_gt
  have ha : ∀ r : ℝ, Ideal.atan2 ((Real.sqrt r : ℝ) : EReal) ((Real.sqrt (1 - r) : ℝ) : EReal) = ((Chord.angle r : ℝ) : EReal) := fun _ => rfl
  have one_sub : ∀ r : ℝ, (1 : EReal) - (r : EReal) = ((1 - r : ℝ) : EReal) := fun _ => rfl
  simp only [hav_at R, diam, c50, ← hh, one_sub] at e
  rw [hs _ h0, hs _ (by linarith), ha, ← EReal.coe_mul] at e
  have q : tol < |12742 * Chord.angle (min 1 (max lo h)) - 50| := by
    by_contra q
    have e' : BitVec.ofBool (decide (Ideal.ofBits .f32 0x358637BD#32
        < max ((12742 * Chord.angle (min 1 (max lo h)) : ℝ) - (50 : ℝ) : EReal) (-((12742 * Chord.angle (min 1 (max lo h)) : ℝ) - (50 : ℝ) : EReal)))) = 1#1 := e
    rw [c_tol, ← EReal.coe_sub, ← EReal.coe_neg, ← EReal.coe_strictMono.monotone.map_max, decide_eq_false] at e'
    · exact absurd e' (by decide)
    · exact fun z => q (EReal.coe_lt_coe_iff.mp z)
  exact q

end Cert.Pre

end
-- ==== Proof.RefTemporal.lean ====
/- The reference's temporal stages, read at an index: each is the stage of `Cert.Spec` of the same name. -/
module

public import proofs.«01_k».proof.Proof.RefSpatial

@[expose] public section

set_option maxRecDepth 16384

noncomputable section

open Idealize.ShloMosaic Idealize.ShloMosaic.TcCoe Idealize.SL.Sem

namespace Cert.ReferenceIdeal.Stage

open Cert.ReferenceIdeal Cert.ReferenceIdeal.Gen Cert.ReferenceIdeal.Value Cert.Consts Cert.Scal Cert.Spec

variable {V0 : Valuation τ sig (Elt Ideal)} {I : Inp}

/-- The largest of a set of values, each real or minus infinity and one of them real, is real. -/
theorem fold_real {ι : Type} (s : Finset ι) (f : ι → EReal) (hf : ∀ i ∈ s, f i < ⊤) (i : ι) (hi : i ∈ s) (h : ⊥ < f i) :
    Rl (s.fold max ⊥ f) := by
  have h1 : s.fold max ⊥ f < ⊤ := (Finset.fold_max_lt _).2 ⟨bot_lt_top, hf⟩
  have h2 : ⊥ < s.fold max ⊥ f := (Finset.lt_fold_max _).2 (Or.inr ⟨i, hi, h⟩)
  exact ⟨_, (EReal.coe_toReal h1.ne h2.ne').symm⟩

/-- A row's largest score is real. -/
theorem max_real {q : ℕ} (X : FVec Ideal ⟨4, ![512, 64, 64, q]⟩ .f32)
    (h : Shape.ReducesTo ⟨4, ![512, 64, 64, q]⟩ [2] ⟨3, ![512, 64, q]⟩) (n : Fin 512) (i : Fin 64) (k : Fin q)
    (hX : ∀ n i j k, X (ix4 n i j k) < ⊤) (hi : ⊥ < X (ix4 n i i k)) :
    Rl (Host.reduce (FloatOps.maximumf (F := Ideal) (φ := .f32)) X (constant (F := Ideal) S_ .f32 0xFF800000#32) h h_S_ (ix3 n i k)) := by
  rw [Host.reduce_eq_fold]
  have hb : (constant (F := Ideal) S_ .f32 0xFF800000#32) (Shape.Idx.first h_S_) = (⊥ : EReal) := c_bot
  rw [hb]
  refine fold_real _ _ (fun a _ => ?_) (ix4 n i i k) (Finset.mem_filter.2 ⟨Finset.mem_univ _, ?_⟩) hi
  · rw [eq_ix4 a]; exact hX _ _ _ _
  · rw [eq_ix3 (h.drop _)]
    congr 1 <;> exact Fin.ext rfl

theorem ref_band : ∀ i j : Fin 64, IntOp.cmpi CmpIPredicate.sle (IntOp.absi (IntOp.subi (BitVec.ofNat 32 (i : ℕ)) (BitVec.ofNat 32 (j : ℕ)))) 5#32
    = if band i j then 1#1 else 0#1 := by
  decide +kernel

/-- The pairs of times at most five steps apart. -/
theorem band_at (i j : Fin 64) : res_main_v159 (F := Ideal) V0 (ix2 i j) = if band i j then 1#1 else 0#1 := by
  pointwise [res_main_v159, res_main_v151]
  exact ref_band i j

/-- The projected features by head. -/
theorem h_at (R : Reads V0 I) (n : Fin 512) (t : Fin 64) (k : Fin 4) (d : Fin 128) :
    res_main_v161 (F := Ideal) V0 (ix4 n t k d) = hh I n k t d := by
  pointwise [res_main_v161]
  simp only [R.x, R.U0]
  rfl

/-- The sources' and the destinations' parts of the first layer's scores. -/
abbrev src0 (I : Inp) (n : Fin 512) (k : Fin 4) (t : Fin 64) : EReal := ∑ d, hh I n k t d * I.s0 k d
@[inherit_doc src0] abbrev dst0 (I : Inp) (n : Fin 512) (k : Fin 4) (t : Fin 64) : EReal := ∑ d, hh I n k t d * I.d0 k d

theorem src0_real (hI : I.Good) (n k t) : Rl (src0 I n k t) := Rl.sum fun d => (h_real hI ..).mul (hI.s0 _ d)
theorem dst0_real (hI : I.Good) (n k t) : Rl (dst0 I n k t) := Rl.sum fun d => (h_real hI ..).mul (hI.d0 _ d)

/-- A choice by the band's bit. -/
theorem select_band (i j : Fin 64) (a b : EReal) :
    Scalar.select (if band i j then 1#1 else 0#1 : BitVec 1) a b = if band i j then a else b := by
  split_ifs <;> rfl

/-- The masked scores of the first layer. -/
theorem score0_at (R : Reads V0 I) (hI : I.Good) (n : Fin 512) (i j : Fin 64) (k : Fin 4) :
    res_main_v179 (F := Ideal) V0 (ix4 n i j k)
      = if band i j then score (src0 I n k) (dst0 I n k) i j else (⊥ : EReal) := by
  have h : res_main_v176 (F := Ideal) V0 (ix4 n i j k) = dst0 I n k i + src0 I n k j := by
    pointwise [res_main_v176]
    simp only [h_at R, R.s0, R.d0]
  pointwise [res_main_v179]
  simp only [id]
  pointwise []
  rw [h, band_at, c_slope, c_bot, score, leaky ((dst0_real hI n k i).add (src0_real hI n k j))]
  exact select_band i j _ _

/-- A masked real is below plus infinity. -/
theorem masked_lt {x : EReal} (hx : Rl x) (B : Prop) [Decidable B] : (if B then x else (⊥ : EReal)) < ⊤ := by
  obtain ⟨r, rfl⟩ := hx
  split_ifs
  · exact EReal.coe_lt_top r
  · exact bot_lt_top

theorem Rl.bot_lt {x : EReal} (hx : Rl x) : ⊥ < x := by
  obtain ⟨r, rfl⟩ := hx; exact EReal.bot_lt_coe r

/-- The exponentials of scores less a row's number. -/
theorem exp4 (v : FVec Ideal S512x64x64x4 .f32) (m : FVec Ideal S512x64x4 .f32) (n : Fin 512) (i j : Fin 64) (k : Fin 4) :
    Host.exp (subf v (broadcastInDim S512x64x64x4 ![0, 1, 2, 3] bcast_S512x64x1x4_S512x64x64x4_0_1_2_3
      (broadcastInDim S512x64x1x4 ![0, 1, 3] bcast_S512x64x4_S512x64x1x4_0_1_3
        (maximumf (broadcastInDim S512x64x4 ![] bcast_S_S512x64x4 (constant S_ .f32 0xFF800000#32)) m)))) (ix4 n i j k)
      = Ideal.exp (v (ix4 n i j k) - m (ix3 n i k)) := by
  pointwise
  rw [c_bot, max_eq_right bot_le]

@[inherit_doc exp4]
theorem exp1 (v : FVec Ideal S512x64x64x1 .f32) (m : FVec Ideal S512x64x1 .f32) (n : Fin 512) (i j : Fin 64) (k : Fin 1) :
    Host.exp (subf v (broadcastInDim S512x64x64x1 ![0, 1, 2, 3] bcast_S512x64x1x1_S512x64x64x1_0_1_2_3
      (broadcastInDim S512x64x1x1 ![0, 1, 3] bcast_S512x64x1_S512x64x1x1_0_1_3
        (maximumf (broadcastInDim S512x64x1 ![] bcast_S_S512x64x1 (constant S_ .f32 0xFF800000#32)) m)))) (ix4 n i j k)
      = Ideal.exp (v (ix4 n i j k) - m (ix3 n i k)) := by
  obtain rfl : k = 0 := Subsingleton.elim _ _
  pointwise
  rw [c_bot, max_eq_right bot_le]

theorem div_one' (x : EReal) : Ideal.div x 1 = x := by
  have h := div_coe' x (r := 1) one_ne_zero
  rw [inv_one, EReal.coe_one, mul_one] at h
  exact h

/-- The exponentials of the first layer: one real number, the row's largest score, is taken off each score of the row. -/
theorem exp0_at (R : Reads V0 I) (hI : I.Good) (n : Fin 512) (i : Fin 64) (k : Fin 4) :
    ∃ M : EReal, Rl M ∧ ∀ j, res_main_v186 (F := Ideal) V0 (ix4 n i j k)
      = Ideal.exp ((if band i j then score (src0 I n k) (dst0 I n k) i j else (⊥ : EReal)) - M) := by
  have hM := max_real (res_main_v179 (F := Ideal) V0) reducesTo_S512x64x64x4_S512x64x4_d2 n i k
    (fun n i j k => by rw [score0_at R hI]; exact masked_lt (score_real (src0_real hI n k) (dst0_real hI n k) i j) _)
    (by rw [score0_at R hI, if_pos (band_self i)]; exact Rl.bot_lt (score_real (src0_real hI n k) (dst0_real hI n k) i i))
  refine ⟨_, hM, fun j => ?_⟩
  rw [← score0_at R hI]
  unfold res_main_v186
  exact exp4 (res_main_v179 (F := Ideal) V0) _ n i j k

/-- The first temporal layer, before its unit. -/
theorem att0_at (R : Reads V0 I) (hI : I.Good) (n : Fin 512) (t : Fin 64) (e : Fin 512) :
    res_main_v197 (F := Ideal) V0 (ix3 n t e)
      = a1 I n ⟨e / 128, by omega⟩ t ⟨e % 128, by omega⟩ + I.c0 e := by
  obtain ⟨M, hM, h⟩ := exp0_at R hI n t ⟨e / 128, by omega⟩
  have hs := softmax (e := fun j => score (src0 I n ⟨e / 128, by omega⟩) (dst0 I n ⟨e / 128, by omega⟩) t j) (M := M)
    (h := hh I n ⟨e / 128, by omega⟩) (B := fun j => band t j)
    (fun j => score_real (src0_real hI n _) (dst0_real hI n _) t j) hM (fun _ _ => h_real hI ..) ⟨t, band_self t⟩ ⟨e % 128, by omega⟩
  pointwise [res_main_v197]
  simp only [h, h_at R, R.c0]
  simp only [mul_comm (hh I n _ _ _)]
  rw [hs]
  rfl

/-- The second layer's projection. -/
theorem h2_at (R : Reads V0 I) (hI : I.Good) (n : Fin 512) (t : Fin 64) (d : Fin 256) :
    res_main_v200 (F := Ideal) V0 (ix4 n t 0 d) = h2 I n t d := by
  pointwise [res_main_v200]
  simp only [id]
  pointwise []
  simp only [att0_at R hI, R.U1, h2, o1, eluS, elu]
  rfl

abbrev src1 (I : Inp) (n : Fin 512) (t : Fin 64) : EReal := ∑ d, h2 I n t d * I.s1 d
abbrev dst1 (I : Inp) (n : Fin 512) (t : Fin 64) : EReal := ∑ d, h2 I n t d * I.d1 d

theorem src1_real (hI : I.Good) (n t) : Rl (src1 I n t) := Rl.sum fun d => (h2_real hI ..).mul (hI.s1 d)
theorem dst1_real (hI : I.Good) (n t) : Rl (dst1 I n t) := Rl.sum fun d => (h2_real hI ..).mul (hI.d1 d)

/-- The masked scores of the second layer. -/
theorem score1_at (R : Reads V0 I) (hI : I.Good) (n : Fin 512) (i j : Fin 64) :
    res_main_v218 (F := Ideal) V0 (ix4 n i j 0)
      = if band i j then score (src1 I n) (dst1 I n) i j else (⊥ : EReal) := by
  have h : res_main_v215 (F := Ideal) V0 (ix4 n i j 0) = dst1 I n i + src1 I n j := by
    pointwise [res_main_v215]
    simp only [h2_at R hI, R.s1, R.d1]
  pointwise [res_main_v218]
  simp only [id]
  pointwise []
  rw [h, band_at, c_slope, c_bot, score, leaky ((dst1_real hI n i).add (src1_real hI n j))]
  exact select_band i j _ _

/-- The exponentials of the second layer. -/
theorem exp1_at (R : Reads V0 I) (hI : I.Good) (n : Fin 512) (i : Fin 64) :
    ∃ M : EReal, Rl M ∧ ∀ j, res_main_v225 (F := Ideal) V0 (ix4 n i j 0)
      = Ideal.exp ((if band i j then score (src1 I n) (dst1 I n) i j else (⊥ : EReal)) - M) := by
  have hM := max_real (res_main_v218 (F := Ideal) V0) reducesTo_S512x64x64x1_S512x64x1_d2 n i 0
    (fun n i j k => by
      rw [Subsingleton.elim k 0, score1_at R hI]; exact masked_lt (score_real (src1_real hI n) (dst1_real hI n) i j) _)
    (by rw [score1_at R hI, if_pos (band_self i)]; exact Rl.bot_lt (score_real (src1_real hI n) (dst1_real hI n) i i))
  refine ⟨_, hM, fun j => ?_⟩
  rw [← score1_at R hI]
  unfold res_main_v225
  exact exp1 (res_main_v218 (F := Ideal) V0) _ n i j 0

/-- The last layer before its norm. -/
theorem fused_at (R : Reads V0 I) (hI : I.Good) (n : Fin 512) (t : Fin 64) (d : Fin 256) :
    res_main_v243 (F := Ideal) V0 (ix3 n t d) = fu I n t d := by
  obtain ⟨M, hM, h⟩ := exp1_at R hI n t
  have hs := fun x => softmax (e := fun j => score (src1 I n) (dst1 I n) t j) (M := M)
    (h := h2 I n) (B := fun j => band t j)
    (fun j => score_real (src1_real hI n) (dst1_real hI n) t j) hM (fun _ _ => h2_real hI ..) ⟨t, band_self t⟩ x
  have hl := fun x => ln_div (r := 256) (by norm_num) (G3 I t n) I.g2 I.e2 x
  pointwise [res_main_v243]
  simp only [if_pos pos256, size3, centred3 R hI, layer3_at R hI, h, h2_at R hI, R.g2, R.e2, R.Wf, R.c1, R.bf, c256, c_eps]
  simp only [mul_comm (h2 I n _ _), hs]
  simp only [mean, vare] at hl ⊢
  simp only [hl, Finset.univ_unique, Finset.sum_singleton, div_one']
  rfl

theorem size4 : res_main_call12_v8 (F := Ideal) V0 ix0 = ((256 : ℝ) : EReal) := by
  pointwise [res_main_call12_v8]
  rw [c256, zero_int, sub_zero]

/-- The last layer. -/
theorem last_at (R : Reads V0 I) (hI : I.Good) (n : Fin 512) (t : Fin 64) (d : Fin 256) :
    res_main_v261 (F := Ideal) V0 (ix3 n t d) = ln 256 (fu I n t) I.gf I.ef d := by
  have hc : ∀ d, res_main_call12_v5 (F := Ideal) V0 (ix3 n t d) = fu I n t d - mean 256 (fu I n t) := fun d => by
    pointwise [res_main_call12_v5]
    simp only [fused_at R hI, c256, mean]
  have hl := fun x => ln_div (r := 256) (by norm_num) (fu I n t) I.gf I.ef x
  pointwise [res_main_v261]
  simp only [if_pos pos256, size4, hc, fused_at R hI, R.gf, R.ef, c256, c_eps]
  simp only [mean, vare] at hl ⊢
  simp only [hl]

/-- The result, from the last layer. -/
theorem result_at (v : FVec Ideal S512x64x256 .f32) (n : Fin 512) (t : Fin 64) (d : Fin 256) :
    mulf v (mulf (broadcastInDim S512x64x256 ![] bcast_S_S512x64x256 (constant S_ .f32 0x3F000000#32))
      (addf (broadcastInDim S512x64x256 ![] bcast_S_S512x64x256 (constant S_ .f32 0x3F800000#32))
        (Host.tanh (mulf (broadcastInDim S512x64x256 ![] bcast_S_S512x64x256 (constant S_ .f32 0x3F4C422A#32))
          (addf v (mulf (broadcastInDim S512x64x256 ![] bcast_S_S512x64x256 (constant S_ .f32 0x3D372713#32))
            (mulf (mulf v v) v))))))) (ix3 n t d) = gelu (v (ix3 n t d)) := by
  pointwise
  rfl

end Cert.ReferenceIdeal.Stage

end
-- ==== Proof.Value.lean ====
/- The kernel and the reference compute the same result. -/
module

public import proofs.«01_k».proof.Proof.Inputs
public import proofs.«01_k».proof.Proof.Pre
public import proofs.«01_k».proof.Proof.RefTemporal
public import proofs.«01_k».proof.Defs

@[expose] public section

set_option maxRecDepth 16384

noncomputable section

open Idealize.ShloMosaic Idealize.ShloMosaic.TcCoe Idealize.SL.Sem

namespace Cert.Value

open Cert.Consts Cert.Scal Cert.Spec Cert.KernelIdeal.Inputs

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same arguments. -/
def Agree : Prop := ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)

variable {m m'}

theorem coords [Cert.Pre_finite_and_no_tie.Facts] (h : Pre_KernelIdeal_finite_and_no_tie m) (c : Dev Cert.KernelIdeal.nD) : RealCoords m c :=
  fun i => Cert.Pre.real1 (h c).2.2.1 i

/-- The reference's arguments hold the inputs. -/
theorem reads (hc : ∀ c, RealCoords m c) (e : Agree m m') (c : Dev Cert.KernelIdeal.nD) :
    Cert.ReferenceIdeal.Stage.Reads (StableHlo.launchContents m' c) (inp m c) where
  x n t d := congrFun ((e c).1) (ix3 n t d)
  lat n := (congrArg (fun z : EReal => z * (rad : EReal)) (congrFun ((e c).2.1) (ix2 n 0))).trans (rad_mul (hc c) (ix2 n 0))
  lon n := (congrArg (fun z : EReal => z * (rad : EReal)) (congrFun ((e c).2.1) (ix2 n 1))).trans (rad_mul (hc c) (ix2 n 1))
  W0 c' k := congrFun ((e c).2.2.2.1) (ix2 c' k)
  b0 k := congrFun ((e c).2.2.2.2.1) (ix1 k)
  g0 k := congrFun ((e c).2.2.2.2.2.1) (ix1 k)
  e0 k := congrFun ((e c).2.2.2.2.2.2.1) (ix1 k)
  W1 c' k := congrFun ((e c).2.2.2.2.2.2.2.1) (ix2 c' k)
  b1 k := congrFun ((e c).2.2.2.2.2.2.2.2.1) (ix1 k)
  g1 k := congrFun ((e c).2.2.2.2.2.2.2.2.2.1) (ix1 k)
  e1 k := congrFun ((e c).2.2.2.2.2.2.2.2.2.2.1) (ix1 k)
  W2 c' k := congrFun ((e c).2.2.2.2.2.2.2.2.2.2.2.1) (ix2 c' k)
  b2 k := congrFun ((e c).2.2.2.2.2.2.2.2.2.2.2.2.1) (ix1 k)
  g2 k := congrFun ((e c).2.2.2.2.2.2.2.2.2.2.2.2.2.1) (ix1 k)
  e2 k := congrFun ((e c).2.2.2.2.2.2.2.2.2.2.2.2.2.2.1) (ix1 k)
  U0 c' k := congrFun ((e c).2.2.2.2.2.2.2.2.2.2.2.2.2.2.2.1) (ix2 c' k)
  c0 k := congrFun ((e c).2.2.2.2.2.2.2.2.2.2.2.2.2.2.2.2.1) (ix1 k)
  s0 c' k := congrFun ((e c).2.2.2.2.2.2.2.2.2.2.2.2.2.2.2.2.2.1) (ix2 c' k)
  d0 c' k := congrFun ((e c).2.2.2.2.2.2.2.2.2.2.2.2.2.2.2.2.2.2.1) (ix2 c' k)
  U1 c' k := congrFun ((e c).2.2.2.2.2.2.2.2.2.2.2.2.2.2.2.2.2.2.2.1) (ix2 c' k)
  c1 k := congrFun ((e c).2.2.2.2.2.2.2.2.2.2.2.2.2.2.2.2.2.2.2.2.1) (ix1 k)
  s1 k := congrFun ((e c).2.2.2.2.2.2.2.2.2.2.2.2.2.2.2.2.2.2.2.2.2.1) (ix2 0 k)
  d1 k := congrFun ((e c).2.2.2.2.2.2.2.2.2.2.2.2.2.2.2.2.2.2.2.2.2.2.1) (ix2 0 k)
  Wf c' k := congrFun ((e c).2.2.2.2.2.2.2.2.2.2.2.2.2.2.2.2.2.2.2.2.2.2.2.1) (ix2 c' k)
  bf k := congrFun ((e c).2.2.2.2.2.2.2.2.2.2.2.2.2.2.2.2.2.2.2.2.2.2.2.2.1) (ix1 k)
  gf k := congrFun ((e c).2.2.2.2.2.2.2.2.2.2.2.2.2.2.2.2.2.2.2.2.2.2.2.2.2.1) (ix1 k)
  ef k := congrFun ((e c).2.2.2.2.2.2.2.2.2.2.2.2.2.2.2.2.2.2.2.2.2.2.2.2.2.2) (ix1 k)

/-- What the precondition gives of the inputs. -/
theorem good [Cert.Pre_finite_and_no_tie.Facts] (h : Pre_KernelIdeal_finite_and_no_tie m) (e : Agree m m') (c : Dev Cert.KernelIdeal.nD) :
    (inp m c).Good where
  tie i j := Cert.Pre.tie (reads (coords h) e c) ((e c).2.1) (h c).1 i j
  x n t d := Cert.Pre.real0 (h c).2.1 (ix3 n t d)
  W0 a k := (Cert.Pre.real3 (h c).2.2.2.1 a k).1
  b0 k := (Cert.Pre.real3 (h c).2.2.2.1 0 k).2.1
  g0 k := (Cert.Pre.real3 (h c).2.2.2.1 0 k).2.2.1
  e0 k := (Cert.Pre.real3 (h c).2.2.2.1 0 k).2.2.2
  W1 a k := (Cert.Pre.real7 (h c).2.2.2.2.1 a k).1
  b1 k := (Cert.Pre.real7 (h c).2.2.2.2.1 0 k).2.1
  g1 k := (Cert.Pre.real7 (h c).2.2.2.2.1 0 k).2.2.1
  e1 k := (Cert.Pre.real7 (h c).2.2.2.2.1 0 k).2.2.2
  W2 a k := Cert.Pre.real11 (h c).2.2.2.2.2.1 (ix2 a k)
  U0 a k := (Cert.Pre.real15 (h c).2.2.2.2.2.2.1 a k).1
  c0 k := (Cert.Pre.real15 (h c).2.2.2.2.2.2.1 0 k).2
  s0 a k := (Cert.Pre.real17 (h c).2.2.2.2.2.2.2.1 a k).1
  d0 a k := (Cert.Pre.real17 (h c).2.2.2.2.2.2.2.1 a k).2
  U1 a k := (Cert.Pre.real19 (h c).2.2.2.2.2.2.2.2 a k).1
  s1 k := (Cert.Pre.real19 (h c).2.2.2.2.2.2.2.2 0 k).2.1
  d1 k := (Cert.Pre.real19 (h c).2.2.2.2.2.2.2.2 0 k).2.2

/-- The kernel computes the reference's result over the extended reals. -/
theorem algebraic [Cert.Pre_finite_and_no_tie.Facts] : algebraic_KernelIdeal_ReferenceIdeal_pre_finite_and_no_tie := by
  intro m g m' g' hp he
  have hI := good hp (m' := m') he
  refine ⟨fun c => Cert.KernelIdeal.Run.W4 m g c (Proc.devRef .tc Cert.KernelIdeal.main_v16), ?_, ?_⟩
  · exact (θ_run Cert.KernelIdeal.defs _ _).mono (fun r hr c =>
      ⟨hr.1 c _ (Cert.KernelIdeal.Run.mem_uc Cert.KernelIdeal.main_v16 (by decide)),
        (hr.1 c _ (Cert.KernelIdeal.Run.mem_uc Cert.KernelIdeal.main_arg0 (by decide))).trans (Cert.KernelIdeal.Run.W4_main_arg0 m g c),
        (hr.1 c _ (Cert.KernelIdeal.Run.mem_uc Cert.KernelIdeal.main_arg1 (by decide))).trans (Cert.KernelIdeal.Run.W4_main_arg1 m g c),
        (hr.1 c _ (Cert.KernelIdeal.Run.mem_uc Cert.KernelIdeal.main_arg2 (by decide))).trans (Cert.KernelIdeal.Run.W4_main_arg2 m g c),
        (hr.1 c _ (Cert.KernelIdeal.Run.mem_uc Cert.KernelIdeal.main_arg3 (by decide))).trans (Cert.KernelIdeal.Run.W4_main_arg3 m g c),
        (hr.1 c _ (Cert.KernelIdeal.Run.mem_uc Cert.KernelIdeal.main_arg4 (by decide))).trans (Cert.KernelIdeal.Run.W4_main_arg4 m g c),
        (hr.1 c _ (Cert.KernelIdeal.Run.mem_uc Cert.KernelIdeal.main_arg5 (by decide))).trans (Cert.KernelIdeal.Run.W4_main_arg5 m g c),
        (hr.1 c _ (Cert.KernelIdeal.Run.mem_uc Cert.KernelIdeal.main_arg6 (by decide))).trans (Cert.KernelIdeal.Run.W4_main_arg6 m g c),
        (hr.1 c _ (Cert.KernelIdeal.Run.mem_uc Cert.KernelIdeal.main_arg7 (by decide))).trans (Cert.KernelIdeal.Run.W4_main_arg7 m g c),
        (hr.1 c _ (Cert.KernelIdeal.Run.mem_uc Cert.KernelIdeal.main_arg8 (by decide))).trans (Cert.KernelIdeal.Run.W4_main_arg8 m g c),
        (hr.1 c _ (Cert.KernelIdeal.Run.mem_uc Cert.KernelIdeal.main_arg9 (by decide))).trans (Cert.KernelIdeal.Run.W4_main_arg9 m g c),
        (hr.1 c _ (Cert.KernelIdeal.Run.mem_uc Cert.KernelIdeal.main_arg10 (by decide))).trans (Cert.KernelIdeal.Run.W4_main_arg10 m g c),
        (hr.1 c _ (Cert.KernelIdeal.Run.mem_uc Cert.KernelIdeal.main_arg11 (by decide))).trans (Cert.KernelIdeal.Run.W4_main_arg11 m g c),
        (hr.1 c _ (Cert.KernelIdeal.Run.mem_uc Cert.KernelIdeal.main_arg12 (by decide))).trans (Cert.KernelIdeal.Run.W4_main_arg12 m g c),
        (hr.1 c _ (Cert.KernelIdeal.Run.mem_uc Cert.KernelIdeal.main_arg13 (by decide))).trans (Cert.KernelIdeal.Run.W4_main_arg13 m g c),
        (hr.1 c _ (Cert.KernelIdeal.Run.mem_uc Cert.KernelIdeal.main_arg14 (by decide))).trans (Cert.KernelIdeal.Run.W4_main_arg14 m g c),
        (hr.1 c _ (Cert.KernelIdeal.Run.mem_uc Cert.KernelIdeal.main_arg15 (by decide))).trans (Cert.KernelIdeal.Run.W4_main_arg15 m g c),
        (hr.1 c _ (Cert.KernelIdeal.Run.mem_uc Cert.KernelIdeal.main_arg16 (by decide))).trans (Cert.KernelIdeal.Run.W4_main_arg16 m g c),
        (hr.1 c _ (Cert.KernelIdeal.Run.mem_uc Cert.KernelIdeal.main_arg17 (by decide))).trans (Cert.KernelIdeal.Run.W4_main_arg17 m g c),
        (hr.1 c _ (Cert.KernelIdeal.Run.mem_uc Cert.KernelIdeal.main_arg18 (by decide))).trans (Cert.KernelIdeal.Run.W4_main_arg18 m g c),
        (hr.1 c _ (Cert.KernelIdeal.Run.mem_uc Cert.KernelIdeal.main_arg19 (by decide))).trans (Cert.KernelIdeal.Run.W4_main_arg19 m g c),
        (hr.1 c _ (Cert.KernelIdeal.Run.mem_uc Cert.KernelIdeal.main_arg20 (by decide))).trans (Cert.KernelIdeal.Run.W4_main_arg20 m g c),
        (hr.1 c _ (Cert.KernelIdeal.Run.mem_uc Cert.KernelIdeal.main_arg21 (by decide))).trans (Cert.KernelIdeal.Run.W4_main_arg21 m g c),
        (hr.1 c _ (Cert.KernelIdeal.Run.mem_uc Cert.KernelIdeal.main_arg22 (by decide))).trans (Cert.KernelIdeal.Run.W4_main_arg22 m g c),
        (hr.1 c _ (Cert.KernelIdeal.Run.mem_uc Cert.KernelIdeal.main_arg23 (by decide))).trans (Cert.KernelIdeal.Run.W4_main_arg23 m g c),
        (hr.1 c _ (Cert.KernelIdeal.Run.mem_uc Cert.KernelIdeal.main_arg24 (by decide))).trans (Cert.KernelIdeal.Run.W4_main_arg24 m g c),
        (hr.1 c _ (Cert.KernelIdeal.Run.mem_uc Cert.KernelIdeal.main_arg25 (by decide))).trans (Cert.KernelIdeal.Run.W4_main_arg25 m g c),
        (hr.1 c _ (Cert.KernelIdeal.Run.mem_uc Cert.KernelIdeal.main_arg26 (by decide))).trans (Cert.KernelIdeal.Run.W4_main_arg26 m g c)⟩) (Cert.KernelIdeal.Run.run m g)
  · refine (θ_run Cert.ReferenceIdeal.defs _ _).mono (fun r hr c => ⟨(hr c).1.trans ?_, (hr c).2⟩)
      (Cert.ReferenceIdeal.Value.run (F := Ideal) m' g')
    have hR := reads (coords hp) he c
    funext y
    refine Eq.trans ?_ ((congrArg (Cert.KernelIdeal.Run.W4 m g c (Proc.devRef .tc Cert.KernelIdeal.main_v16)) (eq_ix3 y)).trans
      (result g (coords hp c) (hI c) (y 0) (y 1) (y 2))).symm
    exact (congrArg _ (eq_ix3 y)).trans ((Cert.ReferenceIdeal.Stage.result_at _ (y 0) (y 1) (y 2)).trans
      (congrArg gelu (Cert.ReferenceIdeal.Stage.last_at hR (hI c) (y 0) (y 1) (y 2))))

end Cert.Value

end
-- ==== Proof.lean ====
module

public import proofs.«01_k».proof.Defs
public import proofs.«01_k».proof.Proof.KernelRun
public import proofs.«01_k».proof.Proof.KernelIdealRun
public import proofs.«01_k».proof.Proof.Gen.ReferenceIdeal.Run
public import Idealize.ShloMosaic.Lib.Quiescent
public import proofs.«01_k».proof.Proof.Value
public import proofs.«01_k».proof.Proof.Gen.Pre_finite_and_no_tie

@[expose] public section

noncomputable section

namespace Cert.Proof

open Idealize.ShloMosaic Idealize.SL.Sem

/-- The reference's run leaves its arguments unchanged, and it has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0) :=
  (θ_run Cert.ReferenceIdeal.defs _ _).mono (fun r h => ⟨fun c => (h c).2, sem_eq_zero_of_no_sems (by rfl) r.2⟩) (Cert.ReferenceIdeal.Value.run (F := Ideal) m g)

/-- The claim. -/
theorem claim : Cert.Claim :=
  ⟨Cert.Kernel.Gen.facts, Cert.KernelIdeal.Gen.facts, Cert.ReferenceIdeal.Gen.facts, Cert.Pre_finite_and_no_tie.Gen.facts,
    fun m g _ => Cert.Kernel.Run.frame (F := Bits) m g,
    fun m g _ => Cert.KernelIdeal.Run.frame (F := Ideal) m g,
    fun m g _ => Cert.KernelIdeal.Run.frame (F := Ideal) m g,
    fun m g _ => reference_frame m g,
    fun m g _ => reference_frame m g,
    IdealRules.named_const.statement Cert.KernelIdeal.κ "mask" .f32 0xCE6E6B28#32 ⊥ rfl,
    Cert.Value.algebraic⟩

end Cert.Proof

end
